-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_rows [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_rows [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_rows : Cert.Pre_in_rows.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal)
    ∧ quiescent_ReferenceIdeal_pre_in_rows (hReferenceIdeal := hReferenceIdeal) (hPre_in_rows := hPre_in_rows)
    ∧ preserves_Kernel_KernelIdeal
    ∧ algebraic_KernelIdeal_ReferenceIdeal (hKernelIdeal := hKernelIdeal) (hReferenceIdeal := hReferenceIdeal) (hPre_in_rows := hPre_in_rows)
-- ==== Pre_in_rows.lean ====
abbrev S4096x26 : Shape := ⟨2, ![4096, 26]⟩
abbrev S100000x128 : Shape := ⟨2, ![100000, 128]⟩
abbrev S_ : Shape := ⟨0, ![]⟩

class Facts : Prop where
  bcast_S_S4096x26 : S_.BroadcastsInDim S4096x26 (![] : Fin 0 → Fin S4096x26.rank)

variable [Facts]

def fn {F : FTy → Type} [FloatOps F] (main_arg0 : IVec S4096x26 32) (main_arg1 : FVec F S100000x128 .f32) : IVec S4096x26 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 100000#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  main_v4
-- ==== Kernel.lean ====
abbrev S4096x26 : Shape := ⟨2, ![4096, 26]⟩
abbrev S100000x128 : Shape := ⟨2, ![100000, 128]⟩
abbrev S26x4096 : Shape := ⟨2, ![26, 4096]⟩
abbrev S32x26x128 : Shape := ⟨3, ![32, 26, 128]⟩
abbrev S106496x128 : Shape := ⟨2, ![106496, 128]⟩
abbrev S26x128 : Shape := ⟨2, ![26, 128]⟩
abbrev S7x128x128 : Shape := ⟨3, ![7, 128, 128]⟩
abbrev S_ : Shape := ⟨0, ![]⟩
abbrev S1x26x128 : Shape := ⟨3, ![1, 26, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S26x4096x128 : Shape := ⟨3, ![26, 4096, 128]⟩
abbrev S4096x26x128 : Shape := ⟨3, ![4096, 26, 128]⟩

abbrev nBuf : Table → Nat
  | .hbm => 7
  | .local .scVector .vmem => 2
  | _ => 0

abbrev bufTy : (tb : Table) → Fin (nBuf tb) → BufTy
  | .hbm, ⟨0, _⟩ => ⟨S4096x26, .i32⟩
  | .hbm, ⟨1, _⟩ => ⟨S100000x128, .f32⟩
  | .hbm, ⟨2, _⟩ => ⟨S26x4096, .i32⟩
  | .hbm, ⟨3, _⟩ => ⟨S32x26x128, .i32⟩
  | .hbm, ⟨4, _⟩ => ⟨S106496x128, .f32⟩
  | .hbm, ⟨5, _⟩ => ⟨S26x4096x128, .f32⟩
  | .hbm, ⟨6, _⟩ => ⟨S4096x26x128, .f32⟩
  | .local .scVector .vmem, ⟨0, _⟩ => ⟨S26x128, .i32⟩
  | .local .scVector .vmem, ⟨1, _⟩ => ⟨S7x128x128, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_arg1_scv : Ref sig .scVector := ⟨.hbm, 1, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_730_r0 : BitVec 32 := 0#32
  let c0_i32_731_r0 : BitVec 32 := 0#32
  ![v1.toNat, 0, 0]
def k0_off2 (i : grid0.Coords) (c0_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v2 : BitVec 32 := Scalar.muli v1 c3328_i32
  let v43 : BitVec 32 := Scalar.addi v2 c0_i32_50
  let c0_i32_54 : BitVec 32 := 0#32
  ![v43.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x26 : Shape := ⟨2, ![4096, 26]⟩
abbrev S100000x128 : Shape := ⟨2, ![100000, 128]⟩
abbrev S_ : Shape := ⟨0, ![]⟩
abbrev S4096x26x1 : Shape := ⟨3, ![4096, 26, 1]⟩
abbrev S1 : Shape := ⟨1, ![1]⟩
abbrev S1x1x1 : Shape := ⟨3, ![1, 1, 1]⟩
abbrev S4096x26x128 : Shape := ⟨3, ![4096, 26, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S100000x128, .f32⟩
  | .hbm, ⟨2, _⟩ => ⟨S_, .i32⟩
  | .hbm, ⟨3, _⟩ => ⟨S4096x26, .i32⟩
  | .hbm, ⟨4, _⟩ => ⟨S4096x26, .i1⟩
  | .hbm, ⟨5, _⟩ => ⟨S_, .i32⟩
  | .hbm, ⟨6, _⟩ => ⟨S4096x26, .i32⟩
  | .hbm, ⟨7, _⟩ => ⟨S4096x26, .i32⟩
  | .hbm, ⟨8, _⟩ => ⟨S4096x26, .i32⟩
  | .hbm, ⟨9, _⟩ => ⟨S4096x26x1, .i32⟩
  | .hbm, ⟨10, _⟩ => ⟨S1, .i32⟩
  | .hbm, ⟨11, _⟩ => ⟨S_, .i32⟩
  | .hbm, ⟨12, _⟩ => ⟨S4096x26x1, .i32⟩
  | .hbm, ⟨13, _⟩ => ⟨S4096x26x1, .i1⟩
  | .hbm, ⟨14, _⟩ => ⟨S1x1x1, .i32⟩
  | .hbm, ⟨15, _⟩ => ⟨S4096x26x1, .i32⟩
  | .hbm, ⟨16, _⟩ => ⟨S4096x26x1, .i1⟩
  | .hbm, ⟨17, _⟩ => ⟨S4096x26x1, .i1⟩
  | .hbm, ⟨18, _⟩ => ⟨S_, .i1⟩
  | .hbm, ⟨19, _⟩ => ⟨S4096x26, .i1⟩
  | .hbm, ⟨20, _⟩ => ⟨S4096x26x128, .f32⟩
  | .hbm, ⟨21, _⟩ => ⟨S4096x26x128, .i1⟩
  | .hbm, ⟨22, _⟩ => ⟨S_, .f32⟩
  | .hbm, ⟨23, _⟩ => ⟨S4096x26x128, .f32⟩
  | .hbm, ⟨24, _⟩ => ⟨S4096x26x128, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Schedule.lean ====
/-
  The tile's program as a list of copies.

  One tile serves twenty-six chunks of 128 rows. It fetches its list of row numbers, and then every chunk goes through the
  same four operations: its gather is started, waited for, its store is started, waited for. Chunk `j` uses slot `j % 7`
  of the ring of row buffers. This module names the windows those operations address as functions of the chunk, lists the
  operations in program order, and proves that the printed body is the run of that list.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen
open Idealize.ShloMosaic
open Idealize.SL.Sem

variable {F : FTy → Type}

/-! ## The arrays a tile addresses -/

/-- The table of rows, the lists of row numbers and the gathered rows, in HBM. -/
abbrev tabV : Memref sig .scVector .hbm S100000x128 .f32 := Memref.whole main_arg1_scv
abbrev idxV : Memref sig .scVector .hbm S32x26x128 .i32 := Memref.whole main_v1_scv
abbrev outV : Memref sig .scVector .hbm S106496x128 .f32 := Memref.whole main_v2_scv
/-- The tile's own list of row numbers and its ring of seven row buffers. -/
abbrev listV : Memref sig .scVector .vmem S26x128 .i32 := Memref.whole cc0_scratch0
abbrev ringV : Memref sig .scVector .vmem S7x128x128 .f32 := Memref.whole cc0_scratch1

/-! ## The windows, as functions of the chunk and of its slot -/

/-- The slot of the ring chunk `j` uses. -/
def slotOf (j : Fin 26) : Fin 7 := ⟨j.val % 7, Nat.mod_lt _ (by decide)⟩

theorem inb_slot (b : Fin 7) (a : Fin S7x128x128.rank) :
    (![b.val, 0, 0] : Fin S7x128x128.rank → ℕ) a + S1x128x128.size a ≤ S7x128x128.size a := by
  revert a b; decide

theorem inb_entry (j : Fin 26) (a : Fin S26x128.rank) :
    (![j.val, 0] : Fin S26x128.rank → ℕ) a + S1x128.size a ≤ S26x128.size a := by
  revert a j; decide

/-- Slot `b` of the ring, as 128 rows. -/
abbrev slotV (b : Fin 7) : Memref sig .scVector .vmem S128x128 .f32 :=
  ((ringV).slice (Rect.unit (s := S7x128x128) ![b.val, 0, 0] S1x128x128.size (inb_slot b)) (fun _ => rfl)).squeeze S128x128
    squeezes_S1x128x128_S128x128

/-- Chunk `j`'s 128 row numbers. -/
abbrev entryV (j : Fin 26) : Memref sig .scVector .vmem S128 .i32 :=
  ((listV).slice (Rect.unit (s := S26x128) ![j.val, 0] S1x128.size (inb_entry j)) (fun _ => rfl)).squeeze S128 squeezes_S1x128_S128

/-- The table, as every gather names it. -/
abbrev allV : Memref sig .scVector .hbm S100000x128 .f32 :=
  (tabV).slice (Rect.unit (s := S100000x128) ![0, 0] S100000x128.size inb_S100000x128_S100000x128_0_0) (fun _ => rfl)

/-- The tile's list of row numbers in HBM. -/
abbrev srcV (L : grid0.Coords) : Memref sig .scVector .hbm S26x128 .i32 :=
  ((idxV).slice (Rect.unit (s := S32x26x128) (k0_off1 L) S1x26x128.size (k0_off1_inb L)) (fun _ => rfl)).squeeze S26x128
    squeezes_S1x26x128_S26x128

/-- The 128 rows of the output chunk `j` of the tile fills. -/
abbrev blockV (L : grid0.Coords) (j : Fin 26) : Memref sig .scVector .hbm S128x128 .f32 :=
  (outV).slice (Rect.unit (s := S106496x128) (k0_off2 L (BitVec.ofNat 32 (128 * j.val))) S128x128.size (k0_off2_inb L j)) (fun _ => rfl)

/-- The semaphore the gathers into slot `b` complete on, and the one the stores out of it complete on. -/
abbrev gSem (b : Fin 7) : DmaSem sig := ⟨b.val, lt_of_lt_of_le b.isLt (by decide)⟩
abbrev sSem (b : Fin 7) : DmaSem sig := ⟨7 + b.val, Nat.lt_of_lt_of_le (Nat.add_lt_add_left b.isLt 7) (by decide)⟩
/-- The semaphore of the list's fetch. -/
abbrev fSem : DmaSem sig := cc0_scoped0.sem

/-! ## The operations -/

/-- The four operations a chunk goes through. -/
inductive Op where
  | gStart (j : Fin 26)
  | gWait (j : Fin 26)
  | sStart (j : Fin 26)
  | sWait (j : Fin 26)

/-- The programs of the tile at grid point `L`. -/
abbrev TProg (F : FTy → Type) (L : grid0.Coords) :=
  Prog (TpuEff nD τ sig (Elt F) Λ₀ (.scVector ((L 0).castLE hcore0) ((L 1).castLE hsub0)))

/-- One operation, as the program issues it. -/
def Op.run (L : grid0.Coords) : Op → TProg F L PUnit
  | .gStart j =>
    SparseCore.enqueueIndirectGather rfl allV (slotV (slotOf j)) gathers_S100000x128_S128x128 (entryV j) rfl (gSem (slotOf j))
      (View.wordExact_bits rfl) rfl (Or.inl rfl)
  | .gWait j =>
    SparseCore.waitIndirectGather (gSem (slotOf j)) allV (slotV (slotOf j)) (View.wordExact_bits rfl) ((View.wordExact_bits rfl).reshape _ _)
  | .sStart j =>
    Prog.lift (.enqueueDma (slotV (slotOf j)) (.here (blockV L j)) (.dma (sSem (slotOf j))) ((View.wordExact_bits rfl).reshape _ _)
      (View.wordExact_bits rfl) ⟨Or.inl rfl, trivial⟩)
  | .sWait j =>
    Prog.lift (.waitDma2 (sSem (slotOf j)) (slotV (slotOf j)) (blockV L j) ((View.wordExact_bits rfl).reshape _ _) (View.wordExact_bits rfl))

/-- The operations of a list, one after another. -/
def runAll (L : grid0.Coords) : List Op → TProg F L PUnit
  | [] => pure ⟨⟩
  | o :: os => do o.run L; runAll L os

/-- The fetch of the tile's list of row numbers, and the wait for it. -/
def fetch (L : grid0.Coords) : TProg F L PUnit := do
  Prog.lift (.enqueueDma (srcV L) (.here listV) (.dma fSem) ((View.wordExact_bits rfl).reshape _ _) (Memref.isWhole_whole _).wordExact
    ⟨Or.inl rfl, trivial⟩)
  Prog.lift (.waitDma2 fSem (srcV L) listV ((View.wordExact_bits rfl).reshape _ _) (Memref.isWhole_whole _).wordExact)

/-- Chunk `j`'s turn: its rows are waited for and their store started; and once the store two chunks back is seen
    through, its slot takes the gather seven chunks on from that one, if there is one. -/
def turn (j : ℕ) (hj : j < 26) : List Op :=
  .gWait ⟨j, hj⟩ :: .sStart ⟨j, hj⟩ ::
    if h : 2 ≤ j ∧ j + 5 < 26 then [.sWait ⟨j - 2, by omega⟩, .gStart ⟨j + 5, h.2⟩] else []

/-- The whole schedule: seven gathers started, twenty-six turns, the last seven stores waited for. -/
def schedule : List Op :=
  (List.finRange 7).map (fun b => Op.gStart (b.castLE (by decide)))
    ++ (List.finRange 26).flatMap (fun j => turn j.val j.isLt)
    ++ (List.finRange 7).map (fun b => Op.sWait (b.natAdd 19))

set_option maxRecDepth 65536 in
set_option maxHeartbeats 4000000 in
/-- The printed body is the fetch followed by the schedule. -/
theorem body_eq (L : grid0.Coords) :
    cc0_k (F := F) L tabV (Memref.isWhole_whole _) idxV (Memref.isWhole_whole _) outV (Memref.isWhole_whole _)
        listV (Memref.isWhole_whole _) ringV (Memref.isWhole_whole _) cc0_scratch2 cc0_scratch3 cc0_scratch4 cc0_scratch5 cc0_scratch6
        cc0_scratch7 cc0_scratch8 cc0_scratch9 cc0_scratch10 cc0_scratch11 cc0_scratch12 cc0_scratch13 cc0_scratch14 cc0_scratch15
        cc0_scoped0
      = (fetch L >>= fun _ => runAll L schedule) := by
  rfl

end Cert.Proof.Tile

end
-- ==== Proof.Values.lean ====
/-
  What one chunk brings.

  `rowsOut T I` is the array the kernel leaves: row `n` of the output is the table's row named by the `n`-th row number,
  the row numbers counted tile by tile, chunk by chunk. Here: which element each of the tile's windows addresses, and that
  what chunk `j`'s gather delivers is what `rowsOut` holds on the chunk's block of the output.
-/
module

public import proofs.«01_k».proof.Proof.Schedule
public import Idealize.ShloMosaic.Lib.ValueIdxCore

@[expose] public section

noncomputable section

namespace Cert.Proof.Tile

open Cert.KernelIdeal Cert.KernelIdeal.Gen
open Idealize.ShloMosaic
open Idealize.SL.Sem
open Idealize.ShloMosaic.ValueIdx

variable {F : FTy → Type}

/-! ## The array the kernel leaves -/

/-- The place of row number `n` in the lists: tile, chunk, entry. -/
def placeOf (n : Fin 106496) : S32x26x128.Idx :=
  ix3 ⟨n.val / 3328, by omega⟩ ⟨n.val / 128 % 26, Nat.mod_lt _ (by decide)⟩ ⟨n.val % 128, Nat.mod_lt _ (by decide)⟩

/-- A word as a row of the table. -/
def rowNo (w : BitVec 32) : Fin 100000 := ⟨w.toNat % 100000, Nat.mod_lt _ (by decide)⟩

/-- Row `n` of the output is the table's row the `n`-th row number names. -/
def rowsOut (T : S100000x128.Idx → Elt F .f32) (I : S32x26x128.Idx → Elt F .i32) : S106496x128.Idx → Elt F .f32 :=
  fun x => T (ix2 (n0 := 100000) (n1 := 128) (rowNo (I (placeOf (x 0)))) (x 1))

/-! ## The windows' elements -/

theorem emb_allV (x : S100000x128.Idx) : (allV).view.emb x = x := by
  funext a
  refine Fin.ext ?_
  change (![0, 0] : Fin S100000x128.rank → ℕ) a + 1 * (x a).val = (x a).val
  match a with
  | 0 => simp
  | 1 => simp

/-- Entry `x` of chunk `j` is the list's entry `(j, x)`. -/
theorem emb_entryV (j : Fin 26) (x : S128.Idx) : (entryV j).view.emb x = ix2 (n0 := 26) (n1 := 128) j (x 0) := by
  have h : Shape.reshapeEquiv (s := S1x128) (s' := S128) squeezes_S1x128_S128.numel_eq x = ix2 (n0 := 1) (n1 := 128) ⟨0, Nat.one_pos⟩ (x 0) :=
    Shape.reshapeEquiv_eq_of_rowMajor _ (((Shape.rowMajor_val_two _).trans (by simp)).trans (Shape.rowMajor_val_one x).symm)
  change (Rect.unit (s := S26x128) ![j.val, 0] S1x128.size (inb_entry j)).emb
    (Shape.reshapeEquiv (s := S1x128) (s' := S128) squeezes_S1x128_S128.numel_eq x) = _
  rw [h]
  funext a
  refine Fin.ext ((Rect.emb_apply _ _ a).trans ?_)
  match a with
  | 0 => simp
  | 1 => simp

/-- Element `(a, r)` of the tile's list in HBM is the lists' element `(tile, a, r)`. -/
theorem emb_srcV (L : grid0.Coords) (x : S26x128.Idx) :
    ∃ h : 2 * (L 1).val + (L 0).val < 32, (srcV L).view.emb x = ix3 (n0 := 32) (n1 := 26) (n2 := 128) ⟨2 * (L 1).val + (L 0).val, h⟩ (x 0) (x 1) := by
  have h0 : (L 0).val < 2 := (L 0).isLt
  have h1 : (L 1).val < 16 := (L 1).isLt
  refine ⟨by omega, ?_⟩
  have h : Shape.reshapeEquiv (s := S1x26x128) (s' := S26x128) squeezes_S1x26x128_S26x128.numel_eq x
      = ix3 (n0 := 1) (n1 := 26) (n2 := 128) ⟨0, Nat.one_pos⟩ (x 0) (x 1) :=
    Shape.reshapeEquiv_eq_of_rowMajor _ (((Shape.rowMajor_val_three _).trans (by simp)).trans (Shape.rowMajor_val_two x).symm)
  change (Rect.unit (s := S32x26x128) (k0_off1 L) S1x26x128.size (k0_off1_inb L)).emb
    (Shape.reshapeEquiv (s := S1x26x128) (s' := S26x128) squeezes_S1x26x128_S26x128.numel_eq x) = _
  rw [h]
  funext a
  refine Fin.ext ((Rect.emb_apply _ _ a).trans ?_)
  have e := congrFun (k0_off1_eq L) a
  match a with
  | 0 => simp [e]
  | 1 => simp [e]
  | 2 => simp [e]

/-- Element `x` of chunk `j`'s block of the output. -/
theorem emb_blockV (L : grid0.Coords) (j : Fin 26) (x : S128x128.Idx) :
    ((blockV L j).view.emb x 0).val = 3328 * (2 * (L 1).val + (L 0).val) + 128 * j.val + (x 0).val
      ∧ (blockV L j).view.emb x 1 = x 1 := by
  have hz (a : Fin S106496x128.rank) : ((blockV L j).view.emb x a).val
      = (![6656 * (L 1).val + 3328 * (L 0).val + 128 * j.val, 0] : Fin S106496x128.rank → ℕ) a + (x a).val := by
    have e := congrFun (k0_off2_eq L j) a
    change k0_off2 L (BitVec.ofNat 32 (128 * j.val)) a + 1 * (x a).val = _
    rw [e, Nat.one_mul]
  refine ⟨?_, Fin.ext ?_⟩
  · rw [hz 0]; simp; omega
  · rw [hz 1]; simp

/-- The row numbers of chunk `j`'s block are the chunk's entries of the tile's list. -/
theorem placeOf_block (L : grid0.Coords) (j : Fin 26) (x : S128x128.Idx) :
    placeOf ((blockV L j).view.emb x 0) = (srcV L).view.emb (ix2 (n0 := 26) (n1 := 128) j (x 0)) := by
  obtain ⟨h, e⟩ := emb_srcV L (ix2 (n0 := 26) (n1 := 128) j (x 0))
  have hx : (x 0).val < 128 := (x 0).isLt
  have hb := (emb_blockV L j x).1
  have hj := j.isLt
  rw [e]
  unfold placeOf
  have e0 : ((blockV L j).view.emb x 0).val / 3328 = 2 * (L 1).val + (L 0).val := by omega
  have e1 : ((blockV L j).view.emb x 0).val / 128 % 26 = j.val := by omega
  have e2 : ((blockV L j).view.emb x 0).val % 128 = (x 0).val := by omega
  funext a
  match a with
  | 0 => exact Fin.ext e0
  | 1 => exact Fin.ext e1
  | 2 => exact Fin.ext e2

/-! ## A gather's delivery -/

variable (T : S100000x128.Idx → Elt F .f32) (I : S32x26x128.Idx → Elt F .i32) (L : grid0.Coords)

/-- The tile's list of row numbers, as the fetch leaves it. -/
def listOf : S26x128.Idx → Elt F .i32 := fun x => I ((srcV L).view.emb x)

/-- What chunk `j`'s block of the output is to hold. -/
def chunkRows (j : Fin 26) : S128x128.Idx → Elt F .f32 := (blockV L j).view.read (Elt F) (rowsOut T I)

theorem read_entryV (l : S26x128.Idx → Elt F .i32) (j : Fin 26) (x : S128.Idx) :
    (entryV j).view.read (Elt F) l x = l (ix2 (n0 := 26) (n1 := 128) j (x 0)) := by
  rw [View.read_apply, cast_eq, emb_entryV]

/-- Every row number the chunk's gather reads is a row of the table. -/
theorem entries_lt (hI : ∀ x, (I x).toNat < 100000) (j : Fin 26) (x : S128.Idx) :
    ((entryV j).view.read (Elt F) (listOf I L) x).toNat < S100000x128.size gathers_S100000x128_S128x128.axis := by
  rw [read_entryV]; exact hI _

/-- Chunk `j`'s gather delivers what its block of the output is to hold. -/
theorem gather_chunk (hI : ∀ x, (I x).toNat < 100000) (j : Fin 26) :
    SparseCore.gatherPayload gathers_S100000x128_S128x128 ((allV).view.read (Elt F) T)
        (SparseCore.rows ((entryV j).view.read (Elt F) (listOf I L)) rfl (entries_lt I L hI j))
      = chunkRows T I L j := by
  funext x
  have hl : (chunkRows T I L j x : Elt F .f32) = T (ix2 (n0 := 100000) (n1 := 128) (rowNo (I ((srcV L).view.emb (ix2 (n0 := 26) (n1 := 128) j (x 0))))) (x 1)) := by
    unfold chunkRows
    rw [View.read_apply, cast_eq]
    unfold rowsOut
    rw [placeOf_block, (emb_blockV L j x).2]
  rw [hl]
  unfold SparseCore.gatherPayload
  rw [View.read_apply, cast_eq, emb_allV]
  have hs : ∀ k : Fin (S128x128.size gathers_S100000x128_S128x128.axis'),
      (S128.rowMajor.symm (k.cast (rfl : S128.numel = S128x128.size gathers_S100000x128_S128x128.axis').symm) 0).val = k.val := by
    intro k
    have e := Shape.rowMajor_val_one (S128.rowMajor.symm (k.cast (rfl : S128.numel = S128x128.size gathers_S100000x128_S128x128.axis').symm))
    rw [Equiv.apply_symm_apply] at e
    exact e.symm
  congr 1
  funext a
  match a with
  | 0 =>
    refine Fin.ext ?_
    have e := Shape.Gathers.idx_axis gathers_S100000x128_S128x128
      (SparseCore.rows ((entryV j).view.read (Elt F) (listOf I L)) rfl (entries_lt I L hI j)) x
    refine (congrArg Fin.val e).trans ?_
    change ((entryV j).view.read (Elt F) (listOf I L) _).toNat = (I _).toNat % 100000
    rw [read_entryV, Nat.mod_eq_of_lt (hI _)]
    unfold listOf
    congr 4
    exact Fin.ext (hs _)
  | 1 =>
    exact Fin.ext (Shape.Gathers.idx_of_ne gathers_S100000x128_S128x128 _ x 1 (by decide))

/-- A store of the chunk's rows leaves its block at what the output is to hold. -/
theorem store_chunk (f : S106496x128.Idx → Elt F .f32) (j : Fin 26) :
    ∀ i ∈ (blockV L j).view.set, (blockV L j).view.write (Elt F) f (chunkRows T I L j) Finset.univ i = rowsOut T I i := by
  intro i hi
  unfold chunkRows
  rw [View.write_read_eq_piecewise, View.setOn_univ, Finset.piecewise_eq_of_mem _ _ _ hi]

end Cert.Proof.Tile

end
-- ==== Proof.Steps.lean ====
/-
  The four operations, each proved once.

  Every chunk is in one of five phases and every slot of the ring is free or not. `St` records them and `Op.next` says how
  an operation moves them: a gather starts on an idle chunk whose slot is free; it is waited for; the store starts; and
  the store's wait leaves the chunk done and its slot free. `Inv` is what the tile holds in a state: per chunk, in its
  phase, the chunk's row numbers, its share of the table, its block of the output, the transfer in flight if there is
  one; per free slot, the slot and its two semaphores at zero. Each operation moves `Inv` from a state to the next.
-/
module

public import proofs.«01_k».proof.Proof.Values

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## States of the schedule -/

/-- Where a chunk stands. -/
inductive Phase where
  | idle | gathering | gathered | storing | done
  deriving DecidableEq

/-- Where the chunks stand, and which slots are free. -/
structure St where
  ph : Fin 26 → Phase
  free : Fin 7 → Bool

/-- Nothing begun. -/
def St.init : St := ⟨fun _ => .idle, fun _ => true⟩

/-- The state after an operation, if it is allowed in this one. -/
def Op.next : Op → St → Option St
  | .gStart j, s =>
    if s.ph j = .idle ∧ s.free (slotOf j) = true
      then some ⟨Function.update s.ph j .gathering, Function.update s.free (slotOf j) false⟩ else none
  | .gWait j, s => if s.ph j = .gathering then some ⟨Function.update s.ph j .gathered, s.free⟩ else none
  | .sStart j, s => if s.ph j = .gathered then some ⟨Function.update s.ph j .storing, s.free⟩ else none
  | .sWait j, s =>
    if s.ph j = .storing ∧ s.free (slotOf j) = false
      then some ⟨Function.update s.ph j .done, Function.update s.free (slotOf j) true⟩ else none

/-- The state after a list of operations. -/
def nextAll : List Op → St → Option St
  | [], s => some s
  | o :: os, s => (o.next s).bind (nextAll os)

/-! ## The resources -/

abbrev UH : Type := URounds (GSem nD τ sig) ℕ
abbrev UU : Type := UH × Counters

local notation "𝕄" => MT nD τ sig (HIx 1) (Elt F) ℕ UU ℕ

abbrev 𝒱₀ : Variants := Variants.none

abbrev cV (L : grid0.Coords) : Fin τ.nSC := (L 0).castLE hcore0
abbrev jV (L : grid0.Coords) : Fin τ.nSub := (L 1).castLE hsub0

/-- One member of a family is taken out, and put back at whatever it has become. -/
theorem bigSep_take {A B : Type} [Fintype A] [DecidableEq A] (Φ : A → B → sProp 𝕄) (s : A → B) (a : A) :
    (bigSep Finset.univ fun i => Φ i (s i))
      ⊢ iprop(Φ a (s a) ∗ ∀ x, Φ a x -∗ bigSep Finset.univ fun i => Φ i (Function.update s a x i)) := by
  rw [SparseCore.bigSep_erase' (Finset.mem_univ a)]
  iintro ⟨Ha, Hr⟩
  isplitl [Ha]; · iexact Ha
  iintro %x Hx
  rw [SparseCore.bigSep_erase' (Finset.mem_univ a), Function.update_self,
    show (bigSep (Finset.univ.erase a) fun i => Φ i (Function.update s a x i)) = bigSep (Finset.univ.erase a) fun i => Φ i (s i) from
      bigSep_congr fun i hi => by rw [Function.update_of_ne (Finset.ne_of_mem_erase hi)]]
  isplitl [Hx] <;> iassumption

variable [FloatOps F]

section Tile

variable (d : Dev nD) (L : grid0.Coords)

/-- The tile's thread. -/
abbrev thr : Thread nD τ := V d (cV L) (jV L)

variable (T : S100000x128.Idx → Elt F .f32) (I : S32x26x128.Idx → Elt F .i32) (f₀ : S106496x128.Idx → Elt F .f32)
  (q : Fin 26 → PosShare TreeShare)

/-- Chunk `j`'s row numbers; its share of the table; its block of the output; slot `b` of the ring. -/
abbrev entryPts (j : Fin 26) : sProp 𝕄 := (entryV j).view.loc (thr d L) ↦[(entryV j).view.set]{fullShare} listOf I L
abbrev tabPts (j : Fin 26) : sProp 𝕄 := (allV).view.loc (thr d L) ↦[(allV).view.set]{q j} T
abbrev blockPts (j : Fin 26) (f : S106496x128.Idx → Elt F .f32) : sProp 𝕄 :=
  (blockV L j).view.loc (thr d L) ↦[(blockV L j).view.set]{fullShare} f
abbrev slotPts (b : Fin 7) (f : S7x128x128.Idx → Elt F .f32) : sProp 𝕄 :=
  (slotV b).view.loc (thr d L) ↦[(slotV b).view.set]{fullShare} f
/-- The slot's two semaphores at zero. -/
abbrev gZero (b : Fin 7) : sProp 𝕄 := semVal (thr d L, SemLoc.dma (gSem b)) 0
abbrev sZero (b : Fin 7) : sProp 𝕄 := semVal (thr d L, SemLoc.dma (sSem b)) 0

/-- The units of one gather, and of one store. -/
abbrev gN (b : Fin 7) : ℕ := (slotV b).view.dmaCredit
abbrev sN (j : Fin 26) : ℕ := (blockV L j).view.dmaCredit

/-- Chunk `j`'s slot, holding the chunk's rows. -/
def loaded (j : Fin 26) : sProp 𝕄 :=
  iprop(∃ f, ⌜(slotV (slotOf j)).view.read (Elt F) f = chunkRows T I L j⌝ ∗ slotPts d L (slotOf j) f)

/-- What the tile holds for chunk `j` in a phase. -/
def chunk (j : Fin 26) : Phase → sProp 𝕄
  | .idle => iprop(entryPts d L I j ∗ tabPts d L T q j ∗ blockPts d L j f₀)
  | .gathering => iprop(Transfers.Flight countersEmb (thr d L) (.dma (gSem (slotOf j))) (default : HIx 1) (gN (slotOf j))
        iprop(loaded d L T I j ∗ tabPts d L T q j ∗ entryPts d L I j)
      ∗ blockPts d L j f₀ ∗ sZero d L (slotOf j))
  | .gathered => iprop(loaded d L T I j ∗ entryPts d L I j ∗ tabPts d L T q j ∗ blockPts d L j f₀ ∗ gZero d L (slotOf j) ∗ sZero d L (slotOf j))
  | .storing => iprop(Transfers.Flight countersEmb (thr d L) (.dma (sSem (slotOf j))) (default : HIx 1) (sN L j)
        iprop(blockPts d L j (rowsOut T I) ∗ ∃ f, slotPts d L (slotOf j) f)
      ∗ entryPts d L I j ∗ tabPts d L T q j ∗ gZero d L (slotOf j))
  | .done => iprop(entryPts d L I j ∗ tabPts d L T q j ∗ blockPts d L j (rowsOut T I))

/-- What the tile holds of slot `b`: nothing while a chunk has it. -/
def slot (b : Fin 7) : Bool → sProp 𝕄
  | true => iprop((∃ f, slotPts d L b f) ∗ gZero d L b ∗ sZero d L b)
  | false => iprop(emp)

/-- What the tile owes and has waited for: what it owed, and beyond what it had waited for only waits of its own. -/
def owed (O : CellTallies nD τ sig (HIx 1)) (W : Waits sig (HIx 1)) : sProp 𝕄 :=
  iprop(∃ W', ⌜∀ p ∈ W', p ∈ W ∨ p.2 = none⌝ ∗ owes (thr d L) O W')

/-- What the tile holds in a state. -/
def Inv (s : St) : sProp 𝕄 :=
  iprop((bigSep Finset.univ fun j => chunk d L T I f₀ q j (s.ph j)) ∗ bigSep Finset.univ fun b => slot d L b (s.free b))

omit [FloatOps F] in
/-- A wait of the tile's own keeps `owed`. -/
theorem owed_insert {O : CellTallies nD τ sig (HIx 1)} {W W' : Waits sig (HIx 1)} (h : ∀ p ∈ W', p ∈ W ∨ p.2 = none) (sm : SemLoc sig) :
    (owes (thr d L) O (insert (sm, (default : HIx 1)) W') : sProp 𝕄) ⊢ owed d L O W := by
  unfold owed
  iintro H
  iexists _
  isplitr
  swap; · iexact H
  ipureintro
  intro p hp
  rcases Finset.mem_insert.mp hp with hp | hp
  · exact .inr (hp ▸ rfl)
  · exact h p hp

variable {T I f₀ q}

/-- Chunk `j`'s gather starts: its row numbers name rows of the table, its slot is free. -/
theorem wp_gStart (hI : ∀ x, (I x).toNat < 100000) (j : Fin 26) {k : PUnit → TProg F L PUnit} {Q : PUnit → sProp 𝕄} :
    iprop(chunk d L T I f₀ q j .idle ∗ slot d L (slotOf j) true)
      ⊢ iprop((iprop(chunk d L T I f₀ q j .gathering ∗ slot d L (slotOf j) false)
            -∗ wp frame (wpE (defs₀ (F := F)) 𝒱₀ (thr d L) none) Set.univ (k ⟨⟩) Q)
          -∗ wp frame (wpE (defs₀ (F := F)) 𝒱₀ (thr d L) none) Set.univ ((Op.gStart j).run L >>= k) Q) := by
  simp only [chunk, slot, loaded]
  iintro ⟨⟨He, Ht, Hb⟩, ⟨%f, Hs⟩, Hg, Hz⟩ Hk
  unfold Op.run
  iapply (SparseCore.wp_indirectGatherLocal countersEmb 𝒱₀ (thr d L) none (hg := gathers_S100000x128_S128x128) (default : HIx 1)
      (gN (slotOf j)) (SparseCore.sum_rowCredit_eq_dmaCredit _ _ fun _ => rfl) (by decide) (entries_lt I L hI j)) $$ [He Ht Hs Hg]
  · isplitl [Ht]; · iexact Ht
    isplitl [Hs]; · iexact Hs
    isplitl [He]; · iexact He
    iexact Hg
  iintro Hfl
  iapply Hk
  isplitr []
  · isplitl [Hfl]
    · iapply (Transfers.Flight_mono countersEmb (thr d L)) $$ Hfl
      iintro ⟨Hs, Ht, He⟩
      isplitl [Hs]
      · iexists _
        isplitr
        swap; · iexact Hs
        ipureintro
        rw [View.read_write_univ]
        exact gather_chunk T I L hI j
      isplitl [Ht] <;> iassumption
    isplitl [Hb] <;> iassumption
  · iempintro

/-- Chunk `j`'s gather is waited for: its slot holds the chunk's rows. -/
theorem wp_gWait {O : CellTallies nD τ sig (HIx 1)} {W : Waits sig (HIx 1)} (j : Fin 26) {k : PUnit → TProg F L PUnit}
    {Q : PUnit → sProp 𝕄} :
    iprop(Transfers.MayWaits (thr d L) (default : HIx 1) O ∗ chunk d L T I f₀ q j .gathering ∗ owed d L O W)
      ⊢ iprop((iprop(chunk d L T I f₀ q j .gathered ∗ owed d L O W)
            -∗ wp frame (wpE (defs₀ (F := F)) 𝒱₀ (thr d L) none) Set.univ (k ⟨⟩) Q)
          -∗ wp frame (wpE (defs₀ (F := F)) 𝒱₀ (thr d L) none) Set.univ ((Op.gWait j).run L >>= k) Q) := by
  simp only [chunk, owed]
  iintro ⟨#Hmw, ⟨Hfl, Hb, Hz⟩, ⟨%W', %hW', HO⟩⟩ Hk
  unfold Op.run
  iapply (Transfers.wp_waitLocalO countersEmb 𝒱₀ (thr d L) none (default : HIx 1) (rfl : gN (slotOf j) = _)) $$ [Hfl HO]
  · isplitl [Hfl]; · iexact Hfl
    isplitl [HO]; · iexact HO
    iapply (Transfers.MayWaits.elim (SemLoc.dma (gSem (slotOf j)))) $$ Hmw
  iintro ⟨⟨Hs, Ht, He⟩, Hg, HO⟩
  iapply Hk
  isplitr [HO]
  · isplitl [Hs]; · iexact Hs
    isplitl [He]; · iexact He
    isplitl [Ht]; · iexact Ht
    isplitl [Hb]; · iexact Hb
    isplitl [Hg] <;> iassumption
  · ihave HO := (owed_insert d L hW' _) $$ HO
    unfold owed; iexact HO

/-- Chunk `j`'s store starts, out of its slot. -/
theorem wp_sStart (j : Fin 26) {k : PUnit → TProg F L PUnit} {Q : PUnit → sProp 𝕄} :
    (chunk d L T I f₀ q j .gathered)
      ⊢ iprop((chunk d L T I f₀ q j .storing -∗ wp frame (wpE (defs₀ (F := F)) 𝒱₀ (thr d L) none) Set.univ (k ⟨⟩) Q)
          -∗ wp frame (wpE (defs₀ (F := F)) 𝒱₀ (thr d L) none) Set.univ ((Op.sStart j).run L >>= k) Q) := by
  simp only [chunk, loaded]
  iintro ⟨⟨%f, %hf, Hs⟩, He, Ht, Hb, Hg, Hz⟩ Hk
  unfold Op.run
  iapply (Transfers.wp_dmaLocal countersEmb 𝒱₀ (thr d L) none (default : HIx 1) (sN L j) rfl (View.dmaCredit_pos _ (by decide))
      (Finset.Subset.refl _)) $$ [Hs Hb Hz]
  · isplitl [Hs]; · iexact Hs
    isplitl [Hb] <;> iassumption
  iintro Hfl
  iapply Hk
  isplitl [Hfl]
  · iapply (Transfers.Flight_mono countersEmb (thr d L)) $$ Hfl
    iintro ⟨Hb, Hs⟩
    isplitl [Hb]
    · iapply (Entails.of_eq (pointsTo_congr fun i hi => ?_)) $$ Hb
      have e : ReadAs.apply (Val := Elt F) ReadAs.same ((slotV (slotOf j)).view.read (Elt F) f) = chunkRows T I L j := hf
      rw [e]
      exact store_chunk T I L f₀ j i hi
    iexists f; iexact Hs
  isplitl [He]; · iexact He
  isplitl [Ht] <;> iassumption

/-- Chunk `j`'s store is waited for: its block holds the table's rows, its slot is free. -/
theorem wp_sWait {O : CellTallies nD τ sig (HIx 1)} {W : Waits sig (HIx 1)} (j : Fin 26) {k : PUnit → TProg F L PUnit}
    {Q : PUnit → sProp 𝕄} :
    iprop(Transfers.MayWaits (thr d L) (default : HIx 1) O ∗ chunk d L T I f₀ q j .storing ∗ owed d L O W)
      ⊢ iprop((iprop(chunk d L T I f₀ q j .done ∗ slot d L (slotOf j) true ∗ owed d L O W)
            -∗ wp frame (wpE (defs₀ (F := F)) 𝒱₀ (thr d L) none) Set.univ (k ⟨⟩) Q)
          -∗ wp frame (wpE (defs₀ (F := F)) 𝒱₀ (thr d L) none) Set.univ ((Op.sWait j).run L >>= k) Q) := by
  simp only [chunk, slot, owed]
  iintro ⟨#Hmw, ⟨Hfl, He, Ht, Hg⟩, ⟨%W', %hW', HO⟩⟩ Hk
  unfold Op.run
  iapply (Transfers.wp_waitLocalO countersEmb 𝒱₀ (thr d L) none (default : HIx 1) (rfl : sN L j = _)) $$ [Hfl HO]
  · isplitl [Hfl]; · iexact Hfl
    isplitl [HO]; · iexact HO
    iapply (Transfers.MayWaits.elim (SemLoc.dma (sSem (slotOf j)))) $$ Hmw
  iintro ⟨⟨Hb, Hs⟩, Hz, HO⟩
  iapply Hk
  isplitl [He Ht Hb]
  · isplitl [He]; · iexact He
    isplitl [Ht] <;> iassumption
  isplitl [Hs Hg Hz]
  · isplitl [Hs]; · iexact Hs
    isplitl [Hg] <;> iassumption
  · ihave HO := (owed_insert d L hW' _) $$ HO
    unfold owed; iexact HO

/-- One operation moves what the tile holds from a state to the next. -/
theorem wp_op (hI : ∀ x, (I x).toNat < 100000) {O : CellTallies nD τ sig (HIx 1)} {W : Waits sig (HIx 1)} {s s' : St} (o : Op)
    (hs : o.next s = some s') {k : PUnit → TProg F L PUnit} {Q : PUnit → sProp 𝕄} :
    iprop(Transfers.MayWaits (thr d L) (default : HIx 1) O ∗ Inv d L T I f₀ q s ∗ owed d L O W)
      ⊢ iprop((iprop(Inv d L T I f₀ q s' ∗ owed d L O W) -∗ wp frame (wpE (defs₀ (F := F)) 𝒱₀ (thr d L) none) Set.univ (k ⟨⟩) Q)
          -∗ wp frame (wpE (defs₀ (F := F)) 𝒱₀ (thr d L) none) Set.univ (o.run L >>= k) Q) := by
  cases o with
  | gStart j =>
    simp only [Op.next, Option.ite_none_right_eq_some, Option.some.injEq] at hs
    obtain ⟨⟨hp, hf⟩, rfl⟩ := hs
    unfold Inv
    iintro ⟨-, ⟨Hc, Hs⟩, HO⟩ Hk
    ihave Hc := (bigSep_take (chunk d L T I f₀ q) s.ph j) $$ Hc
    ihave Hs := (bigSep_take (slot d L) s.free (slotOf j)) $$ Hs
    rw [hp, hf]
    icases Hc with ⟨Hj, Hc⟩
    icases Hs with ⟨Hb, Hs⟩
    iapply (wp_gStart d L hI j) $$ [Hj Hb]
    · isplitl [Hj] <;> iassumption
    iintro ⟨Hj, Hb⟩
    iapply Hk
    isplitr [HO]
    · isplitl [Hc Hj]
      · iapply Hc; iexact Hj
      · iapply Hs; iexact Hb
    · iexact HO
  | gWait j =>
    simp only [Op.next, Option.ite_none_right_eq_some, Option.some.injEq] at hs
    obtain ⟨hp, rfl⟩ := hs
    unfold Inv
    iintro ⟨#Hmw, ⟨Hc, Hs⟩, HO⟩ Hk
    ihave Hc := (bigSep_take (chunk d L T I f₀ q) s.ph j) $$ Hc
    rw [hp]
    icases Hc with ⟨Hj, Hc⟩
    iapply (wp_gWait d L j) $$ [Hj HO]
    · isplitr; · iexact Hmw
      isplitl [Hj] <;> iassumption
    iintro ⟨Hj, HO⟩
    iapply Hk
    isplitr [HO]
    · isplitl [Hc Hj]
      · iapply Hc; iexact Hj
      · iexact Hs
    · iexact HO
  | sStart j =>
    simp only [Op.next, Option.ite_none_right_eq_some, Option.some.injEq] at hs
    obtain ⟨hp, rfl⟩ := hs
    unfold Inv
    iintro ⟨-, ⟨Hc, Hs⟩, HO⟩ Hk
    ihave Hc := (bigSep_take (chunk d L T I f₀ q) s.ph j) $$ Hc
    rw [hp]
    icases Hc with ⟨Hj, Hc⟩
    iapply (wp_sStart d L j) $$ Hj
    iintro Hj
    iapply Hk
    isplitr [HO]
    · isplitl [Hc Hj]
      · iapply Hc; iexact Hj
      · iexact Hs
    · iexact HO
  | sWait j =>
    simp only [Op.next, Option.ite_none_right_eq_some, Option.some.injEq] at hs
    obtain ⟨⟨hp, hf⟩, rfl⟩ := hs
    unfold Inv
    iintro ⟨#Hmw, ⟨Hc, Hs⟩, HO⟩ Hk
    ihave Hc := (bigSep_take (chunk d L T I f₀ q) s.ph j) $$ Hc
    ihave Hs := (bigSep_take (slot d L) s.free (slotOf j)) $$ Hs
    rw [hp]
    icases Hc with ⟨Hj, Hc⟩
    icases Hs with ⟨-, Hs⟩
    iapply (wp_sWait d L j) $$ [Hj HO]
    · isplitr; · iexact Hmw
      isplitl [Hj] <;> iassumption
    iintro ⟨Hj, Hb, HO⟩
    iapply Hk
    isplitr [HO]
    · isplitl [Hc Hj]
      · iapply Hc; iexact Hj
      · iapply Hs; iexact Hb
    · iexact HO

/-- A list of operations, allowed one after another, moves it to the state after them all. -/
theorem wp_all (hI : ∀ x, (I x).toNat < 100000) {O : CellTallies nD τ sig (HIx 1)} {W : Waits sig (HIx 1)} {Q : PUnit → sProp 𝕄} :
    ∀ (os : List Op) {s s' : St}, nextAll os s = some s' →
      iprop(Transfers.MayWaits (thr d L) (default : HIx 1) O ∗ Inv d L T I f₀ q s ∗ owed d L O W)
        ⊢ iprop((iprop(Inv d L T I f₀ q s' ∗ owed d L O W) -∗ Q ⟨⟩)
            -∗ wp frame (wpE (defs₀ (F := F)) 𝒱₀ (thr d L) none) Set.univ (runAll L os) Q)
  | [], s, s', h => by
    cases h
    iintro ⟨-, HI, HO⟩ HQ
    unfold runAll
    simp only [wp_pure]
    imodintro
    iapply HQ
    isplitl [HI] <;> iassumption
  | o :: os, s, s', h => by
    obtain ⟨s₁, h₁, h₂⟩ := Option.bind_eq_some_iff.mp h
    iintro ⟨#Hmw, HI, HO⟩ HQ
    unfold runAll
    iapply (wp_op d L hI o h₁) $$ [HI HO]
    · isplitr; · iexact Hmw
      isplitl [HI] <;> iassumption
    iintro ⟨HI, HO⟩
    iapply (wp_all hI os h₂) $$ [HI HO]
    · isplitr; · iexact Hmw
      isplitl [HI] <;> iassumption
    iexact HQ

end Tile

end Cert.Proof.Tile

end
-- ==== Proof.Split.lean ====
/-
  How each array is the union of its windows.

  Every family of windows here is told apart by a key of the element: the first coordinate of a ring element is its slot,
  of a list element its chunk, of an element of the lists its tile, and an output row over 128 is its tile and chunk. So
  an array held whole is its windows held side by side, and back.
-/
module

public import proofs.«01_k».proof.Proof.Steps

@[expose] public section

noncomputable section

namespace Cert.Proof.Tile

open Cert.KernelIdeal Cert.KernelIdeal.Gen
open Idealize.ShloMosaic
open Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## An array told apart by a key -/

section Key

variable {ℓ : Loc nD τ sig} {A : Type} [Fintype A] [DecidableEq A] (K : A → Finset (Idx ℓ)) (key : Idx ℓ → A)
  (hK : ∀ a x, x ∈ K a ↔ key x = a)

include hK in
theorem key_disjoint : ∀ a ∈ (Finset.univ : Finset A), ∀ b ∈ (Finset.univ : Finset A), a ≠ b → Disjoint (K a) (K b) :=
  fun a _ b _ h => Finset.disjoint_left.mpr fun x ha hb => h (((hK a x).mp ha).symm.trans ((hK b x).mp hb))

include hK in
theorem key_cover : (Finset.univ : Finset A).biUnion K = Finset.univ :=
  Finset.eq_univ_of_forall fun x => Finset.mem_biUnion.mpr ⟨key x, Finset.mem_univ _, (hK _ x).mpr rfl⟩

include hK in
/-- The array held whole is its windows held side by side. -/
theorem pts_key (q : PosShare TreeShare) (f : Buf (Elt F) ℓ) :
    (ℓ ↦{q} f : sProp 𝕄) = bigSep Finset.univ fun a : A => ℓ ↦[K a]{q} f := by
  rw [← pointsTo_biUnion Finset.univ K (key_disjoint K key hK), key_cover K key hK]

include hK in
/-- Windows held at any contents are the array held whole at some contents. -/
theorem pts_key_join [Nonempty (Buf (Elt F) ℓ)] (q : PosShare TreeShare) :
    (bigSep Finset.univ fun a : A => iprop(∃ f : Buf (Elt F) ℓ, ℓ ↦[K a]{q} f)) ⊢ (iprop(∃ f, ℓ ↦{q} f) : sProp 𝕄) := by
  refine (bigSep_exists_pi Finset.univ (fun (a : A) (f : Buf (Elt F) ℓ) => (ℓ ↦[K a]{q} f : sProp 𝕄))).trans ?_
  iintro ⟨%fs, H⟩
  ihave H' := (pointsTo_biUnion_join (q := q) Finset.univ K fs (Classical.arbitrary _) (key_disjoint K key hK)) $$ H
  icases H' with ⟨%g, -, Hg⟩
  rw [key_cover K key hK]
  iexists g; iexact Hg

end Key

/-! ## The windows' keys -/

/-- An element lies in slot `b` when its first coordinate is `b`. -/
theorem mem_slotV (b : Fin 7) (x : S7x128x128.Idx) : x ∈ (slotV b).view.set ↔ (x 0 : Fin 7) = b := by
  have hs : (slotV b).view.set = (Rect.unit (s := S7x128x128) ![b.val, 0, 0] S1x128x128.size (inb_slot b)).set :=
    (View.set_reshape _ _).trans (View.set_slice_whole _ _)
  rw [hs, Rect.mem_set_unit]
  constructor
  · intro h
    have h0 := h 0
    simp at h0
    exact Fin.ext (by omega)
  · rintro rfl a
    match a with
    | 0 => simp
    | 1 => exact ⟨Nat.zero_le _, by simpa using (x 1).isLt⟩
    | 2 => exact ⟨Nat.zero_le _, by simpa using (x 2).isLt⟩

/-- An element of the list is chunk `j`'s when its first coordinate is `j`. -/
theorem mem_entryV (j : Fin 26) (x : S26x128.Idx) : x ∈ (entryV j).view.set ↔ (x 0 : Fin 26) = j := by
  have hs : (entryV j).view.set = (Rect.unit (s := S26x128) ![j.val, 0] S1x128.size (inb_entry j)).set :=
    (View.set_reshape _ _).trans (View.set_slice_whole _ _)
  rw [hs, Rect.mem_set_unit]
  constructor
  · intro h
    have h0 := h 0
    simp at h0
    exact Fin.ext (by omega)
  · rintro rfl a
    match a with
    | 0 => simp
    | 1 => exact ⟨Nat.zero_le _, by simpa using (x 1).isLt⟩

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- An element of the lists is a tile's when its first coordinate is the tile's number. -/
theorem mem_srcV (c : Fin 2) (s : Fin 16) (x : S32x26x128.Idx) :
    x ∈ (srcV (coordsV c s)).view.set ↔ ((⟨(x 0).val % 2, Nat.mod_lt _ Nat.two_pos⟩, ⟨(x 0).val / 2, by
      have h : (x 0).val < 32 := (x 0).isLt
      omega⟩) : Fin 2 × Fin 16) = (c, s) := by
  have hx : (x 0).val < 32 := (x 0).isLt
  have hc := c.isLt
  have hs : (srcV (coordsV c s)).view.set
      = (Rect.unit (s := S32x26x128) (k0_off1 (coordsV c s)) S1x26x128.size (k0_off1_inb (coordsV c s))).set :=
    (View.set_reshape _ _).trans (View.set_slice_whole _ _)
  have e : ∀ a, k0_off1 (coordsV c s) a = (![2 * s.val + c.val, 0, 0] : Fin 3 → ℕ) a := congrFun (k0_off1_eq (coordsV c s))
  rw [hs, Rect.mem_set_unit, Prod.mk.injEq, Fin.ext_iff, Fin.ext_iff]
  constructor
  · intro h
    have h0 := h 0
    rw [e 0] at h0
    simp at h0
    constructor
    · change (x 0).val % 2 = c.val
      omega
    · change (x 0).val / 2 = s.val
      omega
  · rintro ⟨h0, h1⟩ a
    change (x 0).val % 2 = c.val at h0
    change (x 0).val / 2 = s.val at h1
    rw [e a]
    match a with
    | 0 =>
      change 2 * s.val + c.val ≤ (x 0).val ∧ (x 0).val < 2 * s.val + c.val + 1
      omega
    | 1 => exact ⟨Nat.zero_le _, by simpa using (x 1).isLt⟩
    | 2 => exact ⟨Nat.zero_le _, by simpa using (x 2).isLt⟩

/-- The SparseCore, the subcore and the chunk that fill output row `n`. -/
def filler (n : Fin 106496) : Fin 2 × Fin 16 × Fin 26 :=
  (⟨n.val / 3328 % 2, Nat.mod_lt _ Nat.two_pos⟩, ⟨n.val / 6656, by omega⟩, ⟨n.val / 128 % 26, Nat.mod_lt _ (by decide)⟩)

/-- An element of the output is a chunk's when the chunk fills its row. -/
theorem mem_blockV (t : Fin 2 × Fin 16 × Fin 26) (x : S106496x128.Idx) :
    x ∈ (blockV (coordsV t.1 t.2.1) t.2.2).view.set ↔ filler (x 0) = t := by
  obtain ⟨c, s, j⟩ := t
  have hx : (x 0).val < 106496 := (x 0).isLt
  have hc := c.isLt
  have hj := j.isLt
  have hs : (blockV (coordsV c s) j).view.set
      = (Rect.unit (s := S106496x128) (k0_off2 (coordsV c s) (BitVec.ofNat 32 (128 * j.val))) S128x128.size (k0_off2_inb (coordsV c s) j)).set :=
    View.set_slice_whole _ _
  have e : ∀ a, k0_off2 (coordsV c s) (BitVec.ofNat 32 (128 * j.val)) a
      = (![6656 * s.val + 3328 * c.val + 128 * j.val, 0] : Fin 2 → ℕ) a := congrFun (k0_off2_eq (coordsV c s) j)
  change x ∈ (blockV (coordsV c s) j).view.set ↔ _
  unfold filler
  rw [hs, Rect.mem_set_unit, Prod.mk.injEq, Prod.mk.injEq, Fin.ext_iff, Fin.ext_iff, Fin.ext_iff]
  constructor
  · intro h
    have h0 := h 0
    rw [e 0] at h0
    simp at h0
    refine ⟨?_, ?_, ?_⟩
    · change (x 0).val / 3328 % 2 = c.val
      omega
    · change (x 0).val / 6656 = s.val
      omega
    · change (x 0).val / 128 % 26 = j.val
      omega
  · rintro ⟨h0, h1, h2⟩ a
    change (x 0).val / 3328 % 2 = c.val at h0
    change (x 0).val / 6656 = s.val at h1
    change (x 0).val / 128 % 26 = j.val at h2
    rw [e a]
    match a with
    | 0 =>
      change 6656 * s.val + 3328 * c.val + 128 * j.val ≤ (x 0).val ∧ (x 0).val < 6656 * s.val + 3328 * c.val + 128 * j.val + 128
      omega
    | 1 => exact ⟨Nat.zero_le _, by simpa using (x 1).isLt⟩

/-- The table is every gather's whole window. -/
theorem set_allV : (allV).view.set = Finset.univ :=
  Finset.eq_univ_of_forall fun x => by
    have h := View.emb_mem_set (allV).view x
    rwa [emb_allV] at h

end Cert.Proof.Tile

end
-- ==== Proof.Tile.lean ====
/-
  The whole task of one tile.

  The tile takes its list of row numbers, a share of the table and the blocks of the output it fills; it fetches the list,
  runs the schedule, and gives them back with the blocks holding the table's rows. `tile_body` is that statement for the
  printed body, at a symbolic tile and over any float values.
-/
module

public import proofs.«01_k».proof.Proof.Split

@[expose] public section

noncomputable section

namespace Cert.Proof.Tile

open Cert.KernelIdeal Cert.KernelIdeal.Gen
open Idealize.ShloMosaic
open Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The schedule is allowed, and ends with every chunk done -/

/-- Whether a state is the last one: every chunk done, every slot free. -/
def St.atEnd (s : St) : Bool := decide ((∀ j, s.ph j = .done) ∧ ∀ b, s.free b = true)

set_option maxRecDepth 65536 in
theorem schedule_atEnd : ((nextAll schedule St.init).map St.atEnd) = some true := by decide +kernel

/-- Run from the start, the schedule leaves every chunk done and every slot free. -/
theorem schedule_ok : nextAll schedule St.init = some ⟨fun _ => .done, fun _ => true⟩ := by
  obtain ⟨⟨ph, free⟩, hs, he⟩ := Option.map_eq_some_iff.mp schedule_atEnd
  obtain ⟨h₁, h₂⟩ := of_decide_eq_true he
  rw [hs, show ph = fun _ => .done from funext h₁, show free = fun _ => true from funext h₂]

/-! ## What the tile owns: its two buffers, its fifteen semaphores -/

section Own

variable (d : Dev nD) (L : grid0.Coords)

/-- The semaphores the task uses: the fetch's, the gathers', the stores'. -/
def semOf : Unit ⊕ (Fin 7 ⊕ Fin 7) → DmaSem sig
  | .inl _ => fSem
  | .inr (.inl b) => gSem b
  | .inr (.inr b) => sSem b

theorem semOf_injective : Function.Injective semOf := by decide

theorem semOf_scoped (x : Unit ⊕ (Fin 7 ⊕ Fin 7)) : (SemLoc.dma (semOf x) : SemLoc sig).isScoped .scVector = true := by
  revert x; decide

/-- The cell of one of them. -/
abbrev cellOf : Unit ⊕ (Fin 7 ⊕ Fin 7) ↪ GSem nD τ sig :=
  ⟨fun x => (thr d L, .dma (semOf x)), fun _ _ h => semOf_injective (SemLoc.dma.inj (Prod.mk.inj h).2)⟩

theorem cells_owned : Finset.univ.map (cellOf d L) ⊆ ownCells (thr d L) := fun g hg => by
  obtain ⟨x, -, rfl⟩ := Finset.mem_map.mp hg
  exact mem_ownCells.mpr ⟨rfl, semOf_scoped x⟩

/-- The tile's semaphores at zero are the task's and the rest. -/
theorem ownSems0_tile :
    (ownSems0 (thr d L) : sProp 𝕄)
      = iprop((semVal (thr d L, SemLoc.dma fSem) 0 ∗ (bigSep Finset.univ fun b => gZero d L b) ∗ bigSep Finset.univ fun b => sZero d L b)
          ∗ bigSep (ownCells (thr d L) \ Finset.univ.map (cellOf d L)) fun g => semVal g 0) := by
  unfold SparseCore.Cfg.ownSems0
  rw [SparseCore.bigSep_sdiff_split' (cells_owned d L), bigSep_map]
  refine congrArg (fun X => iprop(X ∗ _)) ?_
  refine (BI.bigSep_univ_sum _).trans ?_
  refine congr (congrArg _ (bigSep_univ_of_subsingleton ())) ?_
  exact BI.bigSep_univ_sum _

/-- The tile's buffers are its list, its ring, and the rest. -/
theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr
    ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩)]

end Own

/-- Chunk `j`'s share of the tile's share of the table. -/
abbrev pieceQ (tq : PosShare TreeShare) (j : Fin 26) : PosShare TreeShare := Idealize.ShloMosaic.pieceOf tq 26 (by decide) j

/-- An array held at a share is it held at the share's twenty-six pieces. -/
theorem pts_pieces {ℓ : Loc nD τ sig} (tq : PosShare TreeShare) (f : Buf (Elt F) ℓ) :
    (ℓ ↦{tq} f : sProp 𝕄) = bigSep Finset.univ fun j : Fin 26 => ℓ ↦{pieceQ tq j} f :=
  pointsTo_piecesOf Finset.univ f (by decide) tq

variable [FloatOps F]

section Body

variable (d : Dev nD) (L : grid0.Coords)
  (T : S100000x128.Idx → Elt F .f32) (I : S32x26x128.Idx → Elt F .i32) (f₀ : S106496x128.Idx → Elt F .f32) (tq : PosShare TreeShare)

/-- What a task takes and gives back: its list of row numbers, a share of the table, and its twenty-six blocks of the
    output at the contents `f`. -/
abbrev taskPts (f : S106496x128.Idx → Elt F .f32) : sProp 𝕄 :=
  iprop(((srcV L).view.loc (thr d L) ↦[(srcV L).view.set]{fullShare} I) ∗ ((tabV).view.loc (thr d L) ↦{tq} T)
    ∗ bigSep Finset.univ fun j => blockPts d L j f)

/-- The table's share is the chunks' shares. -/
theorem tab_pieces : ((tabV).view.loc (thr d L) ↦{tq} T : sProp 𝕄) = bigSep Finset.univ fun j => tabPts d L T (pieceQ tq) j := by
  have h : ((tabV).view.loc (thr d L) ↦{tq} T : sProp 𝕄)
      = bigSep Finset.univ fun j : Fin 26 => (tabV).view.loc (thr d L) ↦{pieceQ tq j} T :=
    pts_pieces (ℓ := (tabV).view.loc (thr d L)) tq T
  refine h.trans (bigSep_congr fun j _ => ?_)
  unfold tabPts
  rw [set_allV]

/-- The list is the chunks' entries. -/
theorem list_entries : ((listV).view.loc (thr d L) ↦{fullShare} listOf I L : sProp 𝕄) = bigSep Finset.univ fun j => entryPts d L I j :=
  pts_key (ℓ := (listV).view.loc (thr d L)) (fun j : Fin 26 => (entryV j).view.set) (fun x => x 0) mem_entryV fullShare (listOf I L)

/-- The ring is its slots. -/
theorem ring_slots (f : S7x128x128.Idx → Elt F .f32) :
    ((ringV).view.loc (thr d L) ↦{fullShare} f : sProp 𝕄) = bigSep Finset.univ fun b => slotPts d L b f :=
  pts_key (ℓ := (ringV).view.loc (thr d L)) (fun b : Fin 7 => (slotV b).view.set) (fun x => x 0) mem_slotV fullShare f

/-- The slots, each at some contents, are the ring at some contents. -/
theorem slots_ring :
    (bigSep Finset.univ fun b => iprop(∃ f, slotPts d L b f)) ⊢ (iprop(∃ f, (ringV).view.loc (thr d L) ↦{fullShare} f) : sProp 𝕄) :=
  have : Nonempty (Buf (Elt F) ((ringV).view.loc (thr d L))) := ⟨fun _ => Classical.choice (Elt.nonempty F .f32)⟩
  pts_key_join (ℓ := (ringV).view.loc (thr d L)) (fun b : Fin 7 => (slotV b).view.set) (fun x => x 0) mem_slotV fullShare

/-- The fetch: the tile's list holds its row numbers. -/
theorem wp_fetch {O : CellTallies nD τ sig (HIx 1)} {W : Waits sig (HIx 1)} (fl : S26x128.Idx → Elt F .i32)
    {k : PUnit → TProg F L PUnit} {Q : PUnit → sProp 𝕄} :
    iprop(Transfers.MayWaits (thr d L) (default : HIx 1) O ∗ ((srcV L).view.loc (thr d L) ↦[(srcV L).view.set]{fullShare} I)
        ∗ ((listV).view.loc (thr d L) ↦{fullShare} fl) ∗ semVal (thr d L, SemLoc.dma fSem) 0 ∗ owes (thr d L) O W)
      ⊢ iprop((iprop(((srcV L).view.loc (thr d L) ↦[(srcV L).view.set]{fullShare} I)
              ∗ ((listV).view.loc (thr d L) ↦{fullShare} listOf I L) ∗ semVal (thr d L, SemLoc.dma fSem) 0 ∗ owed d L O W)
            -∗ wp frame (wpE (defs₀ (F := F)) 𝒱₀ (thr d L) none) Set.univ (k ⟨⟩) Q)
          -∗ wp frame (wpE (defs₀ (F := F)) 𝒱₀ (thr d L) none) Set.univ (fetch L >>= k) Q) := by
  have hl : ((listV).view.write (Elt F) fl (ReadAs.apply (Val := Elt F) ReadAs.same ((srcV L).view.read (Elt F) I)) Finset.univ)
      = listOf I L := by
    rw [View.write_whole_univ]
    exact funext fun x => (View.read_apply _ _).trans (cast_eq _ _)
  iintro ⟨#Hmw, Hi, Hl, Hz, HO⟩ Hk
  unfold fetch
  iapply (Transfers.wp_dmaLocal countersEmb 𝒱₀ (thr d L) none (default : HIx 1) ((listV).view.dmaCredit) rfl
      (View.dmaCredit_pos _ (by decide)) (Finset.subset_univ _)) $$ [Hi Hl Hz]
  · isplitl [Hi]; · iexact Hi
    isplitl [Hl]; · iexact Hl
    iexact Hz
  iintro Hfl
  iapply (Transfers.wp_waitLocalO countersEmb 𝒱₀ (thr d L) none (default : HIx 1) (rfl : (listV).view.dmaCredit = _)) $$ [Hfl HO]
  · isplitl [Hfl]; · iexact Hfl
    isplitl [HO]; · iexact HO
    iapply (Transfers.MayWaits.elim (SemLoc.dma fSem)) $$ Hmw
  iintro ⟨⟨Hl, Hi⟩, Hz, HO⟩
  rw [hl]
  iapply Hk
  isplitl [Hi]; · iexact Hi
  isplitl [Hl]; · iexact Hl
  isplitl [Hz]; · iexact Hz
  iapply (owed_insert d L (fun p hp => .inl hp) _) $$ HO

/-- Slots at known contents are slots at some contents. -/
theorem some_slots (f : S7x128x128.Idx → Elt F .f32) :
    (bigSep Finset.univ fun b => slotPts d L b f) ⊢ (bigSep Finset.univ fun b => iprop(∃ g, slotPts d L b g) : sProp 𝕄) := by
  refine bigSep_mono fun b _ => ?_
  show (slotPts d L b f : sProp 𝕄) ⊢ iprop(∃ g, slotPts d L b g)
  iintro H
  iexists f; iexact H

/-- What the tile holds as the schedule starts. -/
theorem inv_start (fr : S7x128x128.Idx → Elt F .f32) :
    iprop(((listV).view.loc (thr d L) ↦{fullShare} listOf I L) ∗ ((tabV).view.loc (thr d L) ↦{tq} T)
        ∗ (bigSep Finset.univ fun j => blockPts d L j f₀) ∗ ((ringV).view.loc (thr d L) ↦{fullShare} fr)
        ∗ (bigSep Finset.univ fun b => gZero d L b) ∗ bigSep Finset.univ fun b => sZero d L b)
      ⊢ Inv d L T I f₀ (pieceQ tq) St.init := by
  rw [list_entries, tab_pieces, ring_slots]
  unfold Inv St.init
  simp only [chunk, slot]
  rw [bigSep_sep', bigSep_sep', bigSep_sep', bigSep_sep']
  iintro ⟨He, Ht, Hb, Hs, Hg, Hz⟩
  isplitl [He Ht Hb]
  · isplitl [He]; · iexact He
    isplitl [Ht] <;> iassumption
  isplitl [Hs]
  · iapply (some_slots d L fr) $$ Hs
  isplitl [Hg] <;> iassumption

/-- What it holds as the schedule ends. -/
theorem inv_end :
    (Inv d L T I f₀ (pieceQ tq) ⟨fun _ => .done, fun _ => true⟩)
      ⊢ iprop(((listV).view.loc (thr d L) ↦{fullShare} listOf I L) ∗ ((tabV).view.loc (thr d L) ↦{tq} T)
        ∗ (bigSep Finset.univ fun j => blockPts d L j (rowsOut T I)) ∗ (∃ f, (ringV).view.loc (thr d L) ↦{fullShare} f)
        ∗ (bigSep Finset.univ fun b => gZero d L b) ∗ bigSep Finset.univ fun b => sZero d L b) := by
  rw [list_entries, tab_pieces]
  unfold Inv
  simp only [chunk, slot]
  rw [bigSep_sep', bigSep_sep', bigSep_sep', bigSep_sep']
  iintro ⟨⟨He, Ht, Hb⟩, Hs, Hg, Hz⟩
  isplitl [He]; · iexact He
  isplitl [Ht]; · iexact Ht
  isplitl [Hb]; · iexact Hb
  isplitl [Hs]; · iapply (slots_ring d L) $$ Hs
  isplitl [Hg] <;> iassumption

/-- The printed body at a symbolic tile: given its list of row numbers, each naming a row of the table, a share of the table
    and its blocks of the output, it terminates and gives them back, the blocks holding the rows the list names. -/
theorem tile_body (hF : (sc (F := F)).Facts) (hI : ∀ x, (I x).toNat < 100000) (O : CellTallies nD τ sig (HIx 1)) (W : Waits sig (HIx 1))
    (hO : ∀ g, O g none = 0) :
    iprop(levAts (sc (F := F)).L (sc (F := F)).lev ∗ emp ∗ taskPts d L T I tq f₀
        ∗ scopedBufs (thr d L) ∗ scopedSems0 (thr d L) ∗ owes (thr d L) O W)
      ⊢ wp frame (wpE (defs₀ (F := F)) 𝒱₀ (thr d L) none) Set.univ
          (cc0_k L tabV (Memref.isWhole_whole _) idxV (Memref.isWhole_whole _) outV (Memref.isWhole_whole _)
            listV (Memref.isWhole_whole _) ringV (Memref.isWhole_whole _) cc0_scratch2 cc0_scratch3 cc0_scratch4 cc0_scratch5 cc0_scratch6
            cc0_scratch7 cc0_scratch8 cc0_scratch9 cc0_scratch10 cc0_scratch11 cc0_scratch12 cc0_scratch13 cc0_scratch14 cc0_scratch15
            cc0_scoped0)
          fun _ => iprop(taskPts d L T I tq (rowsOut T I) ∗ scopedBufs (thr d L) ∗ scopedSems0 (thr d L)
            ∗ ∃ W', ⌜∀ p ∈ W', p ∈ W ∨ p.2 = none⌝ ∗ owes (thr d L) O W') := by
  rw [body_eq, (sc (F := F)).scopedBufs_V hF d (cV L) (jV L), SparseCore.Cfg.scopedSems0_V (Val := Elt F) d (cV L) (jV L),
    ownSems0_tile, ownBufs_tile]
  iintro ⟨#Hlv, -, ⟨Hi, Ht, Hb⟩, ⟨⟨%fl, Hl⟩, ⟨%fr, Hr⟩, Hbufs⟩, ⟨⟨Hf, Hg, Hz⟩, Hsems⟩, HO⟩
  ihave #Hmw := (show levAts (sc (F := F)).L (sc (F := F)).lev ⊢ Transfers.MayWaits (thr d L) (default : HIx 1) O from
    (sc (F := F)).mayWaits_none (thr := thr d L) hO) $$ Hlv
  iapply (wp_fetch d L I fl) $$ [Hi Hl Hf HO]
  · isplitr; · iexact Hmw
    isplitl [Hi]; · iexact Hi
    isplitl [Hl]; · iexact Hl
    isplitl [Hf] <;> iassumption
  iintro ⟨Hi, Hl, Hf, HO⟩
  ihave HI := (inv_start d L T I f₀ tq fr) $$ [Hl Ht Hb Hr Hg Hz]
  · isplitl [Hl]; · iexact Hl
    isplitl [Ht]; · iexact Ht
    isplitl [Hb]; · iexact Hb
    isplitl [Hr]; · iexact Hr
    isplitl [Hg] <;> iassumption
  iapply (wp_all d L hI schedule schedule_ok) $$ [HI HO]
  · isplitr; · iexact Hmw
    isplitl [HI] <;> iassumption
  iintro ⟨HI, HO⟩
  ihave HI := (inv_end d L T I f₀ tq) $$ HI
  icases HI with ⟨Hl, Ht, Hb, Hr, Hg, Hz⟩
  isplitl [Hi Ht Hb]
  · isplitl [Hi]; · iexact Hi
    isplitl [Ht] <;> iassumption
  isplitl [Hl Hr Hbufs]
  · isplitl [Hl]; · iexists _; iexact Hl
    isplitl [Hr] <;> iassumption
  isplitl [Hf Hg Hz Hsems]
  · isplitr [Hsems]
    · isplitl [Hf]; · iexact Hf
      isplitl [Hg] <;> iassumption
    · iexact Hsems
  · unfold owed; iexact HO

end Body

end Cert.Proof.Tile

end
-- ==== Proof.Launch.lean ====
/-
  The call of the thirty-two tiles.

  The call hands every tile its task: the lists and the output split by tile, the table by shares. `tasks_eq` says that the
  three arrays held whole are the thirty-two tasks, at any contents of the output; it is used to hand the tasks out and to
  take them back.
-/
module

public import proofs.«01_k».proof.Proof.Tile

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

/-- The launch's semaphores are distinct and none is a task's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The three arrays are the thirty-two tasks -/

abbrev tabLoc (d : Dev nD) : Loc nD τ sig := (SparseCore.T d).loc main_arg1
abbrev idxLoc (d : Dev nD) : Loc nD τ sig := (SparseCore.T d).loc main_v1
abbrev outLoc (d : Dev nD) : Loc nD τ sig := (SparseCore.T d).loc main_v2

/-- The share of the table the tile of SparseCore `c`, subcore `s` takes. -/
abbrev tileQ (c : Fin 2) (s : Fin 16) : PosShare TreeShare :=
  pieceOf (pieceOf fullShare 2 (by decide) c) 16 (by decide) s

/-- An array held whole is it held at the tiles' shares. -/
theorem pts_tiles {ℓ : Loc nD τ sig} (f : Buf (Elt F) ℓ) :
    (ℓ ↦{fullShare} f : sProp 𝕄) = bigSep Finset.univ fun c : Fin 2 => bigSep Finset.univ fun s : Fin 16 => ℓ ↦{tileQ c s} f :=
  (pointsTo_piecesOf Finset.univ f (by decide) fullShare).trans
    (bigSep_congr fun c _ => pointsTo_piecesOf Finset.univ f (by decide) (pieceOf fullShare 2 (by decide) c))

variable [FloatOps F]

section Tasks

variable (d : Dev nD) (T' : S100000x128.Idx → Elt F .f32) (I : S32x26x128.Idx → Elt F .i32)

/-- The task of SparseCore `c`, subcore `s`, the output at `f`. -/
abbrev task (c : Fin 2) (s : Fin 16) (f : S106496x128.Idx → Elt F .f32) : sProp 𝕄 :=
  taskPts d (coordsV c s) T' I (tileQ c s) f

/-- The lists are the tiles' lists. -/
theorem idx_tiles : (idxLoc d ↦{fullShare} I : sProp 𝕄)
    = bigSep Finset.univ fun c : Fin 2 => bigSep Finset.univ fun s : Fin 16 =>
        (srcV (coordsV c s)).view.loc (thr d (coordsV c s)) ↦[(srcV (coordsV c s)).view.set]{fullShare} I :=
  (pts_key (ℓ := idxLoc d) (fun t : Fin 2 × Fin 16 => (srcV (coordsV t.1 t.2)).view.set) _ (fun t x => mem_srcV t.1 t.2 x) fullShare I).trans
    (bigSep_univ_prod _)

/-- The output is the tiles' blocks. -/
theorem out_tiles (f : S106496x128.Idx → Elt F .f32) : (outLoc d ↦{fullShare} f : sProp 𝕄)
    = bigSep Finset.univ fun c : Fin 2 => bigSep Finset.univ fun s : Fin 16 => bigSep Finset.univ fun j : Fin 26 =>
        blockPts d (coordsV c s) j f :=
  (pts_key (ℓ := outLoc d) (fun t : Fin 2 × Fin 16 × Fin 26 => (blockV (coordsV t.1 t.2.1) t.2.2).view.set) _ mem_blockV fullShare f).trans
    ((bigSep_univ_prod _).trans (bigSep_congr fun _ _ => bigSep_univ_prod _))

/-- The lists, the table and the output held whole are the thirty-two tasks. -/
theorem tasks_eq (f : S106496x128.Idx → Elt F .f32) :
    (iprop((idxLoc d ↦{fullShare} I) ∗ (tabLoc d ↦{fullShare} T') ∗ (outLoc d ↦{fullShare} f)) : sProp 𝕄)
      = bigSep Finset.univ fun c : Fin 2 => bigSep Finset.univ fun s : Fin 16 => task d T' I c s f := by
  rw [idx_tiles, out_tiles, pts_tiles (ℓ := tabLoc d) T']
  unfold task taskPts
  simp only [bigSep_sep']

end Tasks

/-! ## What the handshakes carry -/

variable (T' : Dev nD → S100000x128.Idx → Elt F .f32) (I : Dev nD → S32x26x128.Idx → Elt F .i32)
  (f₀ : Dev nD → S106496x128.Idx → Elt F .f32)

/-- A SparseCore takes its sixteen tasks, each tile its own, and they come back with the output's blocks at the rows the
    lists name. -/
def P : (K (F := F)).Pay (nD := nD) (Val := Elt F) (Name := ℕ) (U := UU) where
  st := fun q d c => match q with | 0 => bigSep Finset.univ fun s : Fin 16 => task d (T' d) (I d) c s (f₀ d)
  dn := fun q d c => match q with | 0 => bigSep Finset.univ fun s : Fin 16 => task d (T' d) (I d) c s (rowsOut (T' d) (I d))
  go := fun q d c i => match q with | 0 => task d (T' d) (I d) c i (f₀ d)
  td := fun q d c i => match q with | 0 => task d (T' d) (I d) c i (rowsOut (T' d) (I d))
  x := fun _ _ => iprop(emp)

instance P_storable : (P T' I f₀).IsStorable where
  st q d c := match q with
    | 0 => (inferInstance : BI.Storable (upEmb : UEmb _ 𝕄) (bigSep Finset.univ fun s : Fin 16 => task d (T' d) (I d) c s (f₀ d)))
  dn q d c := match q with
    | 0 => (inferInstance : BI.Storable (upEmb : UEmb _ 𝕄)
      (bigSep Finset.univ fun s : Fin 16 => task d (T' d) (I d) c s (rowsOut (T' d) (I d))))
  go q d c i := match q with
    | 0 => (inferInstance : BI.Storable (upEmb : UEmb _ 𝕄) (task d (T' d) (I d) c i (f₀ d)))
  td q d c i := match q with
    | 0 => (inferInstance : BI.Storable (upEmb : UEmb _ 𝕄) (task d (T' d) (I d) c i (rowsOut (T' d) (I d))))

/-! ## The obligations of the call -/

/-- What a vector subcore runs when the call dispatches it: the body at its grid point. -/
theorem defs₀_vector (c : Fin τ.nSC) (s : Fin τ.nSub) :
    defs₀ (F := F) (.scVector c s) 0 ()
      = SparseCore.onTile hcore0 hsub0 (fun c s => cc0_k (coordsV c s) tabV (Memref.isWhole_whole _) idxV (Memref.isWhole_whole _)
          outV (Memref.isWhole_whole _) listV (Memref.isWhole_whole _) ringV (Memref.isWhole_whole _) cc0_scratch2 cc0_scratch3
          cc0_scratch4 cc0_scratch5 cc0_scratch6 cc0_scratch7 cc0_scratch8 cc0_scratch9 cc0_scratch10 cc0_scratch11 cc0_scratch12
          cc0_scratch13 cc0_scratch14 cc0_scratch15 cc0_scoped0) ⟨⟩ c s := rfl

omit [FloatOps F] in
/-- The waits a task records are its own: the form the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, from what it is handed to what it hands back. -/
theorem tileObl (hI : ∀ d x, (I d x).toNat < 100000) : (K (F := F)).TileObl (D (F := F)) 𝒱 (P T' I f₀) v₀ 0 := by
  intro d c i O W hO _ _
  simp only [show (P T' I f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (T' d) (I d) (f₀ d) (tileQ c i) facts (hI d) O W hO).trans
    (wp_mono frame _ _ fun _ => obl_post)

/-- A SparseCore's tasks are what its tiles take, and what they bring back is what it brings back. -/
theorem vecSplit : (K (F := F)).VecSplit' (P T' I f₀) 0 := by
  intro d c
  show (bigSep Finset.univ fun s : Fin 16 => task d (T' d) (I d) c s (f₀ d) : sProp 𝕄) ⊢ |={Set.univ}=> iprop(
      (bigSep Finset.univ fun s : Fin 16 => task d (T' d) (I d) c s (f₀ d))
      ∗ ((bigSep Finset.univ fun s : Fin 16 => task d (T' d) (I d) c s (rowsOut (T' d) (I d)))
          -∗ bigSep Finset.univ fun s : Fin 16 => task d (T' d) (I d) c s (rowsOut (T' d) (I d))))
  iintro H; imodintro
  isplitl [H]; · iexact H
  iintro H; iexact H

/-! ## The certificate's ghost state at launch -/

/-- The handshakes' rounds, and no counters. -/
def u₀ : UU := (initOf (K (F := F)).hsCells (K (F := F)).hsToks, 1)

omit [FloatOps F] in
/-- Nothing, for every member of a family, is nothing. -/
theorem bigSep_nothing {A : Type} (s : Finset A) : (bigSep s fun _ => iprop(emp)) = (iprop(emp) : sProp 𝕄) := bigSep_emp_const s

/-- The launch's element gives the handshakes their rounds; the call needs nothing more. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P T' I f₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [bigSep_nothing]; iempintro
  rw [show (bigSep Finset.univ fun thr : Thread nD τ => bigSep Finset.univ fun q : Fin 1 => (P T' I f₀).x q thr) = bigSep Finset.univ fun _ => iprop(emp) from
    bigSep_congr fun _ _ => bigSep_univ_of_subsingleton (0 : Fin 1), bigSep_nothing]
  iempintro

end Cert.Proof.Tile

end
-- ==== Proof.Run.lean ====
/-
  The whole program's run.

  Around the call, the host transposes and reshapes the row numbers before it and reshapes and transposes the gathered rows
  after it. `run_main`: from any memory whose row numbers name rows of the table, every weakly fair execution terminates with
  the two arguments and the result at `finalV` and every semaphore at zero.
-/
module

public import proofs.«01_k».proof.Proof.Launch
public import Idealize.ShloMosaic.Lib.Pipeline.Frame

@[expose] public section

noncomputable section

namespace Cert.Proof.Tile

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after launchContents)

variable {F : FTy → Type}

local notation "𝕄" => MT nD τ sig (HIx 1) (Elt F) ℕ UU ℕ

/-! ## The host's operations and what they leave -/

/-- The host's operations before the call, and after it. -/
abbrev opsBefore : List (HloOp τ sig (Elt F)) :=
  [StableHlo.unary main_arg0 main_v0 ((transpose S26x4096 [1, 0] · transposes_S4096x26_S26x4096_1_0) :
      (⟨S4096x26, .i32⟩ : BufTy).Contents (Elt F) → (⟨S26x4096, .i32⟩ : BufTy).Contents (Elt F)),
    StableHlo.reshape main_v0 main_v1 (rfl : (.i32 : EltTy) = .i32) shapeCasts_S26x4096_S32x26x128]
abbrev opsAfter : List (HloOp τ sig (Elt F)) :=
  [StableHlo.reshape main_v2 main_v3 (rfl : (.f32 : EltTy) = .f32) shapeCasts_S106496x128_S26x4096x128,
    StableHlo.unary main_v3 main_v4 ((transpose S4096x26x128 [1, 0, 2] · transposes_S26x4096x128_S4096x26x128_1_0_2) :
      (⟨S26x4096x128, .f32⟩ : BufTy).Contents (Elt F) → (⟨S4096x26x128, .f32⟩ : BufTy).Contents (Elt F))]

section Contents

variable (m : (ℓ : Loc nD τ sig) → Buf (Elt F) ℓ) (d : Dev nD)

/-- The device's arrays as the call starts. -/
abbrev callV : Valuation τ sig (Elt F) := after opsBefore (launchContents m d)

/-- The table and the lists the call reads, the output as it finds it. -/
abbrev tabAt : S100000x128.Idx → Elt F .f32 := callV m d (Proc.devRef .tc main_arg1)
abbrev idxAt : S32x26x128.Idx → Elt F .i32 := callV m d (Proc.devRef .tc main_v1)
abbrev outAt : S106496x128.Idx → Elt F .f32 := callV m d (Proc.devRef .tc main_v2)

/-- The device's arrays as the call ends, and as the program does. -/
abbrev calledV : Valuation τ sig (Elt F) :=
  Function.update (callV m d) (Proc.devRef .tc main_v2) (rowsOut (tabAt m d) (idxAt m d))
abbrev finalV : Valuation τ sig (Elt F) := after opsAfter (calledV m d)

end Contents

/-! ## The host's program -/

/-- The arrays the host names, held at a valuation, one by one. -/
theorem held_all (d : Dev nD) (V : Valuation τ sig (Elt F)) :
    (held (SparseCore.T d) (Pipeline.ucRefs τ sig) V : sProp 𝕄)
      = iprop(((SparseCore.T d).loc main_v1 ↦{fullShare} V (Proc.devRef .tc main_v1))
          ∗ ((SparseCore.T d).loc main_arg1 ↦{fullShare} V (Proc.devRef .tc main_arg1))
          ∗ ((SparseCore.T d).loc main_v2 ↦{fullShare} V (Proc.devRef .tc main_v2))
          ∗ ((SparseCore.T d).loc main_arg0 ↦{fullShare} V (Proc.devRef .tc main_arg0))
          ∗ ((SparseCore.T d).loc main_v4 ↦{fullShare} V (Proc.devRef .tc main_v4))
          ∗ ((SparseCore.T d).loc main_v0 ↦{fullShare} V (Proc.devRef .tc main_v0))
          ∗ ((SparseCore.T d).loc main_v3 ↦{fullShare} V (Proc.devRef .tc main_v3))) := by
  rw [← Pipeline.unscopedBufs_held]
  unfold unscopedBufs
  rw [show (Finset.univ.filter fun b : Ref sig .tc => ¬ b.isScoped) = {main_v1, main_arg1, main_v2, main_arg0, main_v4, main_v0, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

variable [FloatOps F]

/-- The host's operations touch only the arrays it names. -/
theorem before_sub : ∀ op ∈ opsBefore (F := F), op.bufs ⊆ Pipeline.ucRefs τ sig := by
  intro op h
  refine Pipeline.sub_ucRefs op ?_
  simp only [opsBefore, List.mem_cons, List.not_mem_nil, or_false] at h
  rcases h with rfl | rfl
  · exact StableHlo.unary_bufs_sub ..
  · exact StableHlo.reshape_bufs_sub ..
theorem after_sub : ∀ op ∈ opsAfter (F := F), op.bufs ⊆ Pipeline.ucRefs τ sig := by
  intro op h
  refine Pipeline.sub_ucRefs op ?_
  simp only [opsAfter, List.mem_cons, List.not_mem_nil, or_false] at h
  rcases h with rfl | rfl
  · exact StableHlo.reshape_bufs_sub ..
  · exact StableHlo.unary_bufs_sub ..

theorem before_fresh : ∀ op ∈ opsBefore (F := F), op.fresh = ∅ := by
  intro op h
  simp only [opsBefore, List.mem_cons, List.not_mem_nil, or_false] at h
  rcases h with rfl | rfl <;> rfl
theorem after_fresh : ∀ op ∈ opsAfter (F := F), op.fresh = ∅ := by
  intro op h
  simp only [opsAfter, List.mem_cons, List.not_mem_nil, or_false] at h
  rcases h with rfl | rfl <;> rfl

/-- The host's program: operations, the call, operations. -/
theorem main_eq (d : Dev nD) : main (F := F) d
    = (StableHlo.seq opsBefore >>= fun _ => (K (F := F)).run d 0 >>= fun _ => StableHlo.seq opsAfter >>= fun _ => pure ⟨⟩) := rfl

variable (m : (ℓ : Loc nD τ sig) → Buf (Elt F) ℓ) (ρ : Dev nD → PrngReg)

/-- The call's payloads, from a launch memory. -/
abbrev PM : (K (F := F)).Pay (nD := nD) (Val := Elt F) (Name := ℕ) (U := UU) := P (tabAt m) (idxAt m) (outAt m)

/-- What the host holds as it ends. -/
abbrev FIN (d : Dev nD) : sProp 𝕄 := held (SparseCore.T d) (Pipeline.ucRefs τ sig) (finalV m d)

theorem calledV_ne (d : Dev nD) {r : Ref sig .tc} (h : r ≠ main_v2) : calledV m d (Proc.devRef .tc r) = callV m d (Proc.devRef .tc r) :=
  Function.update_of_ne (fun e => h (Proc.devRef_injective _ e)) _ _

/-- The call, for a host that holds its arrays: the output becomes the rows the lists name. -/
theorem called (d : Dev nD) :
    (held (SparseCore.T d) (Pipeline.ucRefs τ sig) (callV m d) : sProp 𝕄)
      ⊢ iprop((bigSep Finset.univ fun c : Fin ((K (F := F)).nCore 0) => (PM m).st 0 d c)
          ∗ ((bigSep Finset.univ fun c : Fin ((K (F := F)).nCore 0) => (PM m).dn 0 d c)
            -∗ held (SparseCore.T d) (Pipeline.ucRefs τ sig) (calledV m d))) := by
  rw [held_all, held_all, calledV_ne m d (r := main_v1) (by decide), calledV_ne m d (r := main_arg1) (by decide),
    calledV_ne m d (r := main_arg0) (by decide), calledV_ne m d (r := main_v4) (by decide), calledV_ne m d (r := main_v0) (by decide),
    calledV_ne m d (r := main_v3) (by decide), show calledV m d (Proc.devRef .tc main_v2) = rowsOut (tabAt m d) (idxAt m d) from Function.update_self ..]
  have hst : (bigSep Finset.univ fun c : Fin ((K (F := F)).nCore 0) => (PM m).st 0 d c) = _ :=
    (tasks_eq d (tabAt m d) (idxAt m d) (outAt m d)).symm
  have hdn : (bigSep Finset.univ fun c : Fin ((K (F := F)).nCore 0) => (PM m).dn 0 d c) = _ :=
    (tasks_eq d (tabAt m d) (idxAt m d) (rowsOut (tabAt m d) (idxAt m d))).symm
  rw [hst, hdn]
  iintro ⟨Hi, Ht, Ho, Hrest⟩
  isplitl [Hi Ht Ho]
  · isplitl [Hi]; · iexact Hi
    isplitl [Ht] <;> iassumption
  iintro ⟨Hi, Ht, Ho⟩
  isplitl [Hi]; · iexact Hi
  isplitl [Ht]; · iexact Ht
  isplitl [Ho]; · iexact Ho
  iexact Hrest

/-- The host on device `d`: from its arrays at the launch's contents to its arrays at the final ones. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d fun b => m ((SparseCore.T d).loc b) : sProp 𝕄)
    = held (SparseCore.T d) (Pipeline.ucRefs τ sig) (launchContents m d) from Pipeline.unscopedBufs_held d (launchContents m d)]
  iintro ⟨#Hctx, Hst, ⟨Hb, Hh, Hts, -⟩, -⟩
  iapply (StableHlo.wp_seq 𝒱 none Set.univ d _ _ opsBefore before_sub before_fresh (launchContents m d)) $$ [Hb Hh]
  · isplitl [Hb] <;> iassumption
  iintro ⟨Hb, Hh⟩
  ihave Hh := (called m d) $$ Hh
  icases Hh with ⟨Hin, Hback⟩
  rw [wp_bind]
  iapply ((K (F := F)).wp_run (D (F := F)) 𝒱 (EH := EH) (P := PM m) κ d 0) $$ [Hst Hin Hback Hb Hts]
  isplitr; · iexact Hctx
  isplitl [Hst]; · iexact Hst
  isplitl [Hin]; · iexact Hin
  iintro ⟨Hst, Hdn⟩
  ihave Hh := Hback $$ Hdn
  iapply (StableHlo.wp_seq 𝒱 none Set.univ d _ _ opsAfter after_sub after_fresh (calledV m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-! ## The run -/

/-- The memory the program ends with, at the arrays a claim names. -/
def fq (d : Dev nD) (s' : Phys nD τ sig (Elt F)) : Prop :=
  s'.mem.mem ((SparseCore.T d).loc main_arg0) = finalV m d (Proc.devRef .tc main_arg0)
    ∧ s'.mem.mem ((SparseCore.T d).loc main_arg1) = finalV m d (Proc.devRef .tc main_arg1)
    ∧ s'.mem.mem ((SparseCore.T d).loc main_v4) = finalV m d (Proc.devRef .tc main_v4)

omit [FloatOps F] in
/-- An array held whole is what the memory holds there. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  unfold FIN
  rw [held_all]
  iintro ⟨⟨-, H1, -, H0, H4, -⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H4]
  · isplitl [HSI] <;> iassumption
  icases H with ⟨%h4, -⟩
  ipureintro
  exact ⟨h0, h1, h4⟩

/-- How a run ends: every device's arguments and result at their final contents, every semaphore at zero. -/
def QC : PUnit × MemSt nD τ sig (Elt F) → Prop := fun r =>
  (∀ d : Dev nD, r.2.mem ((SparseCore.T d).loc main_arg0) = finalV m d (Proc.devRef .tc main_arg0)
    ∧ r.2.mem ((SparseCore.T d).loc main_arg1) = finalV m d (Proc.devRef .tc main_arg1)
    ∧ r.2.mem ((SparseCore.T d).loc main_v4) = finalV m d (Proc.devRef .tc main_v4)) ∧ r.2.sem = fun _ => 0

/-- From any memory whose lists name rows of the table, the program terminates as `QC` says. -/
theorem run_main [∀ e, Nonempty (Elt F e)] (hI : ∀ d x, (idxAt m d x).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tabAt m) (idxAt m) (outAt m) hI)
    (fun q _ => match q with | 0 => SparseCore.Cfg.VecSplit.of_plain (vecSplit (tabAt m) (idxAt m) (outAt m)))
    m ρ main (fun _ => iprop(emp)) (FIN m) (u₀ (F := F)) (sep_elim_left.trans (hu₀ (tabAt m) (idxAt m) (outAt m))) (hmain m ρ) (fq m) (hfin m)
    (QC m) (fun _ h hz => ⟨h, hz⟩)

end Cert.Proof.Tile

end
-- ==== Proof.Lookup.lean ====
/-
  What both programs compute, and what the precondition says.

  `lookup T I` is the array whose row at `(b, f)` is the table's row named by the index at `(b, f)`. The precondition says of
  each index that, read as a signed integer, it lies in `[0, 100000)`: as a natural number it is below 100000.
-/
module

public import proofs.«01_k».proof.Proof.Values
public import proofs.«01_k».proof.Proof.Gen.Pre_in_rows
public import Idealize.ShloMosaic.Lib.Affine

@[expose] public section

noncomputable section

namespace Cert.Proof.Tile

open Cert.KernelIdeal Cert.KernelIdeal.Gen
open Idealize.ShloMosaic
open Idealize.SL.Sem
open Idealize.ShloMosaic.ValueIdx

variable {F : FTy → Type}

/-- The table's rows, looked up index by index. -/
def lookup (T : S100000x128.Idx → Elt F .f32) (I : S4096x26.Idx → BitVec 32) : S4096x26x128.Idx → Elt F .f32 :=
  fun x => T (ix2 (n0 := 100000) (n1 := 128) (rowNo (I (ix2 (n0 := 4096) (n1 := 26) (x 0) (x 1)))) (x 2))

/-- Every index names a row of the table. -/
def InRows (I : S4096x26.Idx → BitVec 32) : Prop := ∀ x, (I x).toNat < 100000

/-- A word that, read signed, is at least 0 and below 100000 is, read unsigned, below 100000. -/
theorem word_in_rows (w : BitVec 32) (h : IntOp.andi (IntOp.cmpi .sge w 0#32) (IntOp.cmpi .slt w 100000#32) = 1#1) :
    w.toNat < 100000 := by
  change IntOp.andi (BitVec.ofBool (BitVec.sle 0#32 w)) (BitVec.ofBool (BitVec.slt w 100000#32)) = 1#1 at h
  cases h₁ : BitVec.sle 0#32 w <;> cases h₂ : BitVec.slt w 100000#32 <;> rw [h₁, h₂] at h <;> first | exact absurd h (by decide) | skip
  simp only [BitVec.sle_eq_decide, BitVec.slt_eq_decide, decide_eq_true_eq, BitVec.toInt_eq_toNat_cond, BitVec.toNat_ofNat, Nat.reducePow,
    Nat.reduceMod] at h₁ h₂
  omega

/-- The precondition, all ones, says that every index names a row. -/
theorem inRows_of_pre [FloatOps F] (I : S4096x26.Idx → BitVec 32) (T : S100000x128.Idx → Elt F .f32)
    (h : Cert.Pre_in_rows.fn (F := F) I T = fun _ => 1#1) : InRows I := fun x => word_in_rows (I x) (congrFun h x)

end Cert.Proof.Tile

end
-- ==== Proof.Host.lean ====
/-
  What the host's operations do to the arrays.

  Before the call the indices, 4096 by 26, are transposed and cut into 32 lists of 26 chunks of 128; after it the rows are cut
  into 26 groups of 4096 and transposed back. Read at one place of the result, the four operations cancel: the kernel's result
  is `lookup` of the two arguments.
-/
module

public import proofs.«01_k».proof.Proof.Run
public import proofs.«01_k».proof.Proof.Lookup
public import Idealize.ShloMosaic.Lib.Pipeline.Value
public import Idealize.ShloMosaic.Lib.ValueLayout

@[expose] public section

noncomputable section

namespace Cert.Proof.Tile

open Cert.KernelIdeal Cert.KernelIdeal.Gen
open Idealize.ShloMosaic
open Idealize.SL.Sem
open Idealize.ShloMosaic.ValueIdx
open Idealize.ShloMosaic.StableHlo

variable {F : FTy → Type} [FloatOps F]

/-- The lists the call reads, from the indices. -/
def listsOf (I : S4096x26.Idx → BitVec 32) : S32x26x128.Idx → BitVec 32 :=
  shapeCast S32x26x128 (transpose S26x4096 [1, 0] I transposes_S4096x26_S26x4096_1_0) shapeCasts_S26x4096_S32x26x128

/-- The program's result, from the rows the call leaves. -/
def resultOf (R : S106496x128.Idx → Elt F .f32) : S4096x26x128.Idx → Elt F .f32 :=
  transpose S4096x26x128 [1, 0, 2] (shapeCast S26x4096x128 R shapeCasts_S106496x128_S26x4096x128) transposes_S26x4096x128_S4096x26x128_1_0_2

section Contents

variable (m : (ℓ : Loc nD τ sig) → Buf (Elt F) ℓ) (d : Dev nD)

/-- The arguments, as the program finds them. -/
abbrev argI : S4096x26.Idx → BitVec 32 := m ((SparseCore.T d).loc main_arg0)
abbrev argT : S100000x128.Idx → Elt F .f32 := m ((SparseCore.T d).loc main_arg1)

/-- The host's first operations leave the table alone … -/
theorem tabAt_eq : tabAt m d = argT m d := by
  simp only [tabAt, callV, opsBefore]
  after_results <;> rfl

/-- … and make the lists of the indices. -/
theorem idxAt_eq : idxAt m d = listsOf (argI m d) := by
  simp only [idxAt, callV, opsBefore]
  after_results <;> rfl

/-- The whole program leaves its two arguments alone … -/
theorem finalV_arg0 : finalV m d (Proc.devRef .tc main_arg0) = m ((SparseCore.T d).loc main_arg0) := by
  refine (show finalV m d (Proc.devRef .tc main_arg0) = calledV m d (Proc.devRef .tc main_arg0) by
    simp only [finalV, opsAfter]; after_results).trans ?_
  refine (calledV_ne m d (r := main_arg0) (by decide)).trans ?_
  simp only [callV, opsBefore]
  after_results <;> rfl
theorem finalV_arg1 : finalV m d (Proc.devRef .tc main_arg1) = m ((SparseCore.T d).loc main_arg1) := by
  refine (show finalV m d (Proc.devRef .tc main_arg1) = calledV m d (Proc.devRef .tc main_arg1) by
    simp only [finalV, opsAfter]; after_results).trans ?_
  refine (calledV_ne m d (r := main_arg1) (by decide)).trans ?_
  simp only [callV, opsBefore]
  after_results <;> rfl

/-- … and its result is made of the rows the call leaves. -/
theorem finalV_v4 : finalV m d (Proc.devRef .tc main_v4) = resultOf (rowsOut (argT m d) (listsOf (argI m d))) := by
  refine (show finalV m d (Proc.devRef .tc main_v4) = resultOf (calledV m d (Proc.devRef .tc main_v2)) by
    simp only [finalV, opsAfter]; after_results <;> rfl).trans ?_
  rw [show calledV m d (Proc.devRef .tc main_v2) = rowsOut (tabAt m d) (idxAt m d) from Function.update_self .., tabAt_eq, idxAt_eq]

end Contents

/-! ## Read at an index -/

/-- The `n`-th of the listed row numbers, counted tile by tile, is the index at row `n % 4096`, column `n / 4096`. -/
theorem listsOf_placeOf (I : S4096x26.Idx → BitVec 32) (n : Fin 106496) :
    listsOf I (placeOf n) = I (ix2 (n0 := 4096) (n1 := 26) ⟨n.val % 4096, Nat.mod_lt _ (by decide)⟩ ⟨n.val / 4096, by omega⟩) := by
  unfold listsOf
  refine (shapeCast_apply _ _ _ (ix2 (n0 := 26) (n1 := 4096) ⟨n.val / 4096, by omega⟩ ⟨n.val % 4096, Nat.mod_lt _ (by decide)⟩)
    ((Shape.rowMajor_val_two _).trans (.trans ?_ (Shape.rowMajor_val_three _).symm))).trans (transpose_ix2_apply ..)
  change n.val / 4096 * 4096 + n.val % 4096 = (n.val / 3328 * 26 + n.val / 128 % 26) * 128 + n.val % 128
  omega

/-- Every listed row number is one of the indices. -/
theorem listsOf_lt (I : S4096x26.Idx → BitVec 32) (h : InRows I) (x : S32x26x128.Idx) : (listsOf I x).toNat < 100000 := by
  unfold listsOf shapeCast transpose
  exact h _

/-- The result at `(b, f, c)` is the output's row `4096 f + b` at `c`. -/
theorem resultOf_apply (R : S106496x128.Idx → Elt F .f32) (b : Fin 4096) (f : Fin 26) (c : Fin 128) :
    resultOf R (ix3 b f c) = R (ix2 (n0 := 106496) (n1 := 128) ⟨f.val * 4096 + b.val, by omega⟩ c) := by
  unfold resultOf
  refine (transpose_apply _ _ _ _ (ix3 (n0 := 26) (n1 := 4096) (n2 := 128) f b c) fun a => match a with
    | ⟨0, _⟩ => rfl | ⟨1, _⟩ => rfl | ⟨2, _⟩ => rfl).trans ?_
  refine shapeCast_apply _ _ _ _ ((Shape.rowMajor_val_two _).trans (.trans ?_ (Shape.rowMajor_val_three _).symm))
  rfl

/-- The program's result is the table's rows, looked up index by index. -/
theorem result_eq (T : S100000x128.Idx → Elt F .f32) (I : S4096x26.Idx → BitVec 32) :
    resultOf (rowsOut T (listsOf I)) = lookup T I := by
  funext x
  rw [eq_ix3 (n0 := 4096) (n1 := 26) (n2 := 128) x]
  refine (resultOf_apply ..).trans ?_
  unfold rowsOut lookup
  refine congrArg (fun w => T (ix2 (n0 := 100000) (n1 := 128) (rowNo w) (x 2))) ((listsOf_placeOf I _).trans (congrArg I ?_))
  funext a
  refine Fin.ext ?_
  have hb : (x 0).val < 4096 := (x 0).isLt
  match a with
  | ⟨0, _⟩ => exact show ((x 1).val * 4096 + (x 0).val) % 4096 = (x 0).val by omega
  | ⟨1, _⟩ => exact show ((x 1).val * 4096 + (x 0).val) / 4096 = (x 1).val by omega

end Cert.Proof.Tile

end
-- ==== Proof.Reference.lean ====
/-
  What the reference computes.

  The reference wraps negative indices round, gathers the table's rows at the wrapped indices, and writes over every row whose
  index names none. Where every index names a row the wrap and the overwrite do nothing: the reference is `lookup`.
-/
module

public import proofs.«01_k».proof.Proof.Lookup
public import proofs.«01_k».proof.Proof.Gen.ReferenceIdeal.Run
public import Idealize.ShloMosaic.Lib.Pipeline.Value
public import Idealize.ShloMosaic.Lib.ReduceAll

@[expose] public section

noncomputable section

namespace Cert.Proof.Ref

open Cert.ReferenceIdeal Cert.ReferenceIdeal.Gen
open Idealize.ShloMosaic
open Idealize.SL.Sem
open Idealize.ShloMosaic.ValueIdx
open Cert.Proof.Tile (rowNo lookup InRows)

variable {F : FTy → Type} [FloatOps F]

/-! ## The reference's parts -/

/-- The indices, a negative one counted from the table's end. -/
def wrapped (I : IVec S4096x26 32) : IVec S4096x26 32 :=
  select (cmpi .slt I (broadcastInDim S4096x26 ![] bcast_S_S4096x26 (constantI S_ 32 0#32)))
    (addi I (broadcastInDim S4096x26 ![] bcast_S_S4096x26 (constantI S_ 32 100000#32))) I

/-- Those, each in a vector of its own: where the gather starts. -/
def starts (I : IVec S4096x26 32) : IVec S4096x26x1 32 := broadcastInDim S4096x26x1 ![0, 1] bcast_S4096x26_S4096x26x1_0_1 (wrapped I)

/-- Which starts name a row of the table, entry by entry. -/
def entryOk (I : IVec S4096x26 32) : IVec S4096x26x1 1 :=
  andi (cmpi .sge (starts I) (broadcastInDim S4096x26x1 ![] bcast_S_S4096x26x1 (constantI S_ 32 0#32)))
    (cmpi .sle (starts I) (broadcastInDim S4096x26x1 ![0, 1, 2] bcast_S1x1x1_S4096x26x1_0_1_2
      (broadcastInDim S1x1x1 ![2] bcast_S1_S1x1x1_2 (constantI S1 32 99999#32))))

/-- The same, one bit per index. -/
def rowOk (I : IVec S4096x26 32) : IVec S4096x26 1 :=
  Host.reduce IntOp.andi (entryOk I) (constantI S_ 1 1#1) reducesTo_S4096x26x1_S4096x26_d2 h_S_

/-- The rows gathered at the starts. -/
def gathered (T : FVec F S100000x128 .f32) (I : IVec S4096x26 32) : FVec F S4096x26x128 .f32 :=
  Host.gather gather_S100000x128_S4096x26x1_S4096x26x128_2_0_n_n_0_2_1128 T (starts I)

/-- The reference: the gathered rows where the index names one. -/
def taken (T : FVec F S100000x128 .f32) (I : IVec S4096x26 32) : FVec F S4096x26x128 .f32 :=
  select (broadcastInDim S4096x26x128 ![0, 1] bcast_S4096x26_S4096x26x128_0_1 (rowOk I)) (gathered T I)
    (broadcastInDim S4096x26x128 ![] bcast_S_S4096x26x128 (constant S_ .f32 0x7FC00000#32))

/-! ## Their values, where every index names a row -/

theorem wrap_word (w : BitVec 32) (h : w.toNat < 100000) : BitVec.slt w 0#32 = false := by
  simp only [BitVec.slt_eq_decide, decide_eq_false_iff_not, BitVec.toInt_eq_toNat_cond, BitVec.toNat_ofNat, Nat.reducePow, Nat.reduceMod]
  omega

theorem wrapped_eq (I : IVec S4096x26 32) (h : InRows I) : wrapped I = I := by
  funext x
  show (if BitVec.ofBool (BitVec.slt (I x) 0#32) = 1#1 then _ else _) = _
  rw [wrap_word (I x) (h x)]
  rfl

/-- Every start names a row: the starts are the indices. -/
theorem starts_lt (I : IVec S4096x26 32) (h : InRows I) (x : S4096x26x1.Idx) : (starts I x).toNat < 100000 := by
  unfold starts broadcastInDim
  rw [wrapped_eq I h]
  exact h _

theorem ok_word (w : BitVec 32) (h : w.toNat < 100000) : IntOp.andi (IntOp.cmpi .sge w 0#32) (IntOp.cmpi .sle w 99999#32) = 1#1 := by
  have h1 : BitVec.sle 0#32 w = true := by
    simp only [BitVec.sle_eq_decide, decide_eq_true_eq, BitVec.toInt_eq_toNat_cond, BitVec.toNat_ofNat, Nat.reducePow, Nat.reduceMod]
    omega
  have h2 : BitVec.sle w 99999#32 = true := by
    simp only [BitVec.sle_eq_decide, decide_eq_true_eq, BitVec.toInt_eq_toNat_cond, BitVec.toNat_ofNat, Nat.reducePow, Nat.reduceMod]
    omega
  show IntOp.andi (BitVec.ofBool (BitVec.sle 0#32 w)) (BitVec.ofBool (BitVec.sle w 99999#32)) = 1#1
  rw [h1, h2]
  rfl

theorem rowOk_one (I : IVec S4096x26 32) (h : InRows I) (x : S4096x26.Idx) : rowOk I x = 1#1 :=
  Host.reduce_andi_one _ _ _ _ _ rfl fun i => ok_word (starts I i) (starts_lt I h i)

/-- The row a start below the table's height names, as the gather reads it. -/
theorem clamp_word (w : BitVec 32) (h : w.toNat < 100000) : min w.toInt.toNat (100000 - 1) = (rowNo w).val := by
  have e : w.toInt.toNat = w.toNat := by
    rw [BitVec.toInt_eq_toNat_cond, if_pos (by omega)]
    rfl
  show _ = w.toNat % 100000
  omega

/-- The gathered rows, at an index. -/
theorem gathered_apply (T : FVec F S100000x128 .f32) (I : IVec S4096x26 32) (h : InRows I) (x : S4096x26x128.Idx) :
    gathered T I x = T (ix2 (n0 := 100000) (n1 := 128) (rowNo (I (ix2 (n0 := 4096) (n1 := 26) (x 0) (x 1)))) (x 2)) := by
  unfold gathered Host.gather
  refine congrArg T (funext fun a => Fin.ext ?_)
  have hs : starts I (ix3 (n0 := 4096) (n1 := 26) (n2 := 1) (x 0) (x 1) 0) = I (ix2 (n0 := 4096) (n1 := 26) (x 0) (x 1)) := by
    unfold starts
    rw [wrapped_eq I h]
    exact broadcastInDim_apply _ _ _ _ _ fun a => match a with | ⟨0, _⟩ => rfl | ⟨1, _⟩ => rfl
  show GatherDims.start _ x (starts I) a + GatherDims.batchCoord _ x a + GatherDims.offCoord _ x a = _
  rw [GatherDims.batchCoord_eq_zero _ _ _ List.not_mem_nil, Nat.add_zero]
  have ha : a = (0 : Fin 2) ∨ a = (1 : Fin 2) := match a with | ⟨0, _⟩ => .inl rfl | ⟨1, _⟩ => .inr rfl
  rcases ha with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S100000x128_S4096x26x1_S4096x26x128_2_0_n_n_0_2_1128.startIndexMap from List.mem_singleton.mpr rfl)]
    refine .trans (congrArg (fun w : BitVec 32 => min w.toInt.toNat (100000 - 1)) (.trans (congrArg (starts I) ?_) hs)) (clamp_word _ (h _))
    funext b
    refine Fin.ext ?_
    match b with
    | ⟨0, _⟩ => rfl
    | ⟨1, _⟩ => rfl
    | ⟨2, _⟩ => rfl
  · unfold GatherDims.start
    rw [dif_neg (show (1 : Fin 2) ∉ gather_S100000x128_S4096x26x1_S4096x26x128_2_0_n_n_0_2_1128.startIndexMap by decide), Nat.zero_add]
    unfold GatherDims.offCoord
    rw [dif_pos (show (1 : Fin 2) ∈ gather_S100000x128_S4096x26x1_S4096x26x128_2_0_n_n_0_2_1128.sKept by decide)]
    rfl

/-- The reference is the table's rows, looked up index by index. -/
theorem taken_eq (T : FVec F S100000x128 .f32) (I : IVec S4096x26 32) (h : InRows I) : taken T I = lookup T I := by
  funext x
  unfold taken lookup select broadcastInDim
  rw [rowOk_one I h]
  exact gathered_apply T I h x

end Cert.Proof.Ref

end
-- ==== Proof.Equation.lean ====
/-
  The kernel and the reference, run.

  `kernel_run`: over any float values, from a memory whose indices name rows, the kernel ends with `lookup` of its arguments,
  the arguments unchanged and every semaphore at zero. `reference_run`: so does the reference. From memories that agree on the
  arguments the two results are therefore one array.
-/
module

public import proofs.«01_k».proof.Proof.Host
public import proofs.«01_k».proof.Proof.Reference

@[expose] public section

noncomputable section

namespace Cert.Proof

open Idealize.ShloMosaic Idealize.SL.Sem
open Cert.Proof.Tile (lookup InRows)

variable {F : FTy → Type} [FloatOps F] [∀ e, Nonempty (Elt F e)]

section Kernel
open Cert.KernelIdeal Cert.KernelIdeal.Gen

/-- From a memory whose indices name rows of the table, the kernel terminates with its result at the rows looked up, its
    arguments unchanged and every semaphore at zero. -/
theorem kernel_run (m : (ℓ : Loc nD τ sig) → Buf (Elt F) ℓ) (ρ : Dev nD → PrngReg)
    (h : ∀ c : Dev nD, InRows (m ((c.tc : Thread nD τ).loc main_arg0))) :
    θ_run (defs (F := F)) (threads (F := F)) ⟨m, fun _ => 0, ρ⟩ (fun r => (∀ c : Dev nD,
      r.2.mem ((c.tc : Thread nD τ).loc main_v4) = lookup (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ hr => ⟨fun c => ⟨(hr.1 c).2.2.trans ((Tile.finalV_v4 m c).trans (Tile.result_eq _ _)),
      (hr.1 c).1.trans (Tile.finalV_arg0 m c), (hr.1 c).2.1.trans (Tile.finalV_arg1 m c)⟩, hr.2⟩)
    (Tile.run_main m ρ fun d x => by
      rw [Tile.idxAt_eq]
      exact Tile.listsOf_lt _ (h d) x)

end Kernel

section Reference
open Cert.ReferenceIdeal Cert.ReferenceIdeal.Gen

/-- From a memory whose indices name rows of the table, the reference terminates with its result at the rows looked up and its
    arguments unchanged. -/
theorem reference_run (m : (ℓ : Loc nD τ sig) → Buf (Elt F) ℓ) (ρ : Dev nD → PrngReg)
    (h : ∀ c : Dev nD, InRows (m ((c.tc : Thread nD τ).loc main_arg0))) :
    θ_run (defs (F := F)) (onTc (τ := τ) (main (F := F))) ⟨m, fun _ => 0, ρ⟩ (fun r => ∀ c : Dev nD,
      r.2.mem ((c.tc : Thread nD τ).loc main_v0) = lookup (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ hr c => ⟨(hr c).1.trans (Ref.taken_eq _ _ (h c)), (hr c).2⟩) (Value.run m ρ)

/-- From any memory at all, the reference terminates with its arguments unchanged and, having no semaphore, every semaphore at
    zero. -/
theorem reference_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r hr => ⟨fun c => (hr c).2, sem_eq_zero_of_no_sems (by decide) r.2⟩) (Value.run m ρ)

end Reference

end Cert.Proof

end
-- ==== Proof.lean ====
/-
  The certificate of the embedding lookup: the table's rows named by an array of indices, fetched by thirty-two tiles through
  rings of seven row buffers.

  From a memory whose indices name rows of the table, the kernel terminates, over bit patterns and over extended reals, with
  its arguments unchanged and every semaphore at zero; the reference does so from any memory; the kernel's idealization is its
  own text; and over the extended reals the two results are the same array.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_rows
public import proofs.«01_k».proof.Proof.Equation
public import Idealize.ShloMosaic.Adequacy
public import Idealize.ShloMosaic.Init

@[expose] public section

noncomputable section

namespace Cert.Proof

open Idealize.ShloMosaic Idealize.SL.Sem
open Cert.Proof.Tile (lookup inRows_of_pre)

/-- The kernel runs and leaves its arguments and its semaphores as it found them. -/
theorem frame_kernel : Cert.quiescent_Kernel := fun m ρ h =>
  (θ_run Cert.KernelIdeal.defs _ _).mono (fun _ hr => ⟨fun c => (hr.1 c).2, hr.2⟩)
    (kernel_run (F := Bits) m ρ fun c => inRows_of_pre (F := Bits) _ _ (h c))

/-- So does its idealization. -/
theorem frame_kernel_ideal : Cert.quiescent_KernelIdeal := fun m ρ h =>
  (θ_run Cert.KernelIdeal.defs _ _).mono (fun _ hr => ⟨fun c => (hr.1 c).2, hr.2⟩)
    (kernel_run (F := Ideal) m ρ fun c => inRows_of_pre (F := Ideal) _ _ (h c))

/-- So does the reference, from any memory … -/
theorem frame_reference : Cert.quiescent_ReferenceIdeal := fun m ρ _ => reference_frame (F := Ideal) m ρ

/-- … and so from one whose indices name rows. -/
theorem frame_reference_in_rows : Cert.quiescent_ReferenceIdeal_pre_in_rows := fun m ρ _ => reference_frame (F := Ideal) m ρ

/-- From memories that agree on the arguments, the indices naming rows of the table, kernel and reference end with the same
    array: the rows looked up. -/
theorem same_result : Cert.algebraic_KernelIdeal_ReferenceIdeal := fun m ρ m' ρ' h hm => by
  have hI := fun c => inRows_of_pre (F := Ideal) _ _ (h c)
  refine ⟨fun c => lookup (F := Ideal) (m ((c.tc : Thread Cert.KernelIdeal.nD Cert.KernelIdeal.τ).loc Cert.KernelIdeal.main_arg1))
    (m ((c.tc : Thread Cert.KernelIdeal.nD Cert.KernelIdeal.τ).loc Cert.KernelIdeal.main_arg0)), ?_, ?_⟩
  · exact (θ_run Cert.KernelIdeal.defs _ _).mono (fun _ hr => hr.1) (kernel_run (F := Ideal) m ρ hI)
  · refine (θ_run Cert.ReferenceIdeal.defs _ _).mono (fun _ hr c => ⟨(hr c).1.trans ?_, (hr c).2⟩)
      (reference_run (F := Ideal) m' ρ' fun c => (hm c).1 ▸ hI c)
    exact congrArg₂ (lookup (F := Ideal)) (hm c).2 (hm c).1

/-- Everything claimed. -/
theorem claim : Cert.Claim := ⟨Cert.Kernel.Gen.facts, Cert.KernelIdeal.Gen.facts, Cert.ReferenceIdeal.Gen.facts, Cert.Pre_in_rows.Gen.facts,
  frame_kernel, frame_kernel_ideal, frame_reference, frame_reference_in_rows, trivial, same_result⟩

end Cert.Proof

end
